-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_logit [hPre_some_logit : Cert.Pre_some_logit.Facts] (m : (ℓ : Loc Cert.KernelIdeal.nD Cert.KernelIdeal.τ Cert.KernelIdeal.sig) → Buf (Elt Ideal) ℓ) : Prop :=
  ∀ c : Dev Cert.KernelIdeal.nD,
    (Cert.Pre_some_logit.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_logit [hPre_some_logit : Cert.Pre_some_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_logit.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_some_logit [hKernelIdeal : Cert.KernelIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_logit [hReferenceIdeal : Cert.ReferenceIdeal.Facts] [hPre_some_logit : Cert.Pre_some_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_some_logit [hKernelIdeal : Cert.KernelIdeal.Facts] [hReferenceIdeal : Cert.ReferenceIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_some_logit : Cert.Pre_some_logit.Facts),
    quiescent_Kernel (hKernel := hKernel)
    ∧ quiescent_KernelIdeal (hKernelIdeal := hKernelIdeal)
    ∧ quiescent_KernelIdeal_pre_some_logit (hKernelIdeal := hKernelIdeal) (hPre_some_logit := hPre_some_logit)
    ∧ quiescent_ReferenceIdeal (hReferenceIdeal := hReferenceIdeal)
    ∧ quiescent_ReferenceIdeal_pre_some_logit (hReferenceIdeal := hReferenceIdeal) (hPre_some_logit := hPre_some_logit)
    ∧ preserves_Kernel_KernelIdeal
    ∧ algebraic_KernelIdeal_ReferenceIdeal_pre_some_logit (hKernelIdeal := hKernelIdeal) (hReferenceIdeal := hReferenceIdeal) (hPre_some_logit := hPre_some_logit)
-- ==== Pre_some_logit.lean ====
abbrev S128x100000 : Shape := ⟨2, ![128, 100000]⟩
abbrev S_ : Shape := ⟨0, ![]⟩
abbrev S128 : Shape := ⟨1, ![128]⟩

class Facts : Prop where
  bcast_S_S128x100000 : S_.BroadcastsInDim S128x100000 (![] : Fin 0 → Fin S128x100000.rank)
  reducesTo_S128x100000_S128_d1 : S128x100000.ReducesTo [1] S128
  h_S_ : 0 < S_.numel

variable [Facts]

def fn {F : FTy → Type} [FloatOps F] (main_arg0 : FVec F S128x100000 .f32) : IVec S128 1 :=
  let main_cst : FVec F S_ .f32 := constant S_ .f32 0xFF800000#32
  let main_v0 : FVec F S128x100000 .f32 := broadcastInDim S128x100000 ![] bcast_S_S128x100000 main_cst
  let main_v1 : IVec S128x100000 1 := cmpf .ogt main_arg0 main_v0
  let main_c : IVec S_ 1 := constantI S_ 1 0#1
  let main_v2 : IVec S128 1 := (fun x v => Host.reduce IntOp.ori x v reducesTo_S128x100000_S128_d1 h_S_) main_v1 main_c
  main_v2
-- ==== Kernel.lean ====
abbrev S128x100000 : Shape := ⟨2, ![128, 100000]⟩
abbrev S100000x128 : Shape := ⟨2, ![100000, 128]⟩
abbrev S1x128 : Shape := ⟨2, ![1, 128]⟩
abbrev S4000x128 : Shape := ⟨2, ![4000, 128]⟩
abbrev S16x128 : Shape := ⟨2, ![16, 128]⟩
abbrev S128 : Shape := ⟨1, ![128]⟩

abbrev nBuf : Space → Nat
  | .hbm => 4
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S100000x128, .f32⟩
  | .hbm, ⟨2, _⟩ => ⟨S1x128, .i32⟩
  | .hbm, ⟨3, _⟩ => ⟨S128, .i32⟩
  | .local _ .vmem, ⟨0, _⟩ => ⟨S4000x128, .f32⟩
  | .local _ .vmem, ⟨1, _⟩ => ⟨S4000x128, .f32⟩
  | .local _ .vmem, ⟨2, _⟩ => ⟨S1x128, .i32⟩
  | .local _ .vmem, ⟨3, _⟩ => ⟨S16x128, .f32⟩
  | .local _ .vmem, ⟨4, _⟩ => ⟨S16x128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c24_i32_13741 : BitVec 32 := 24#32
  let v45019 : BitVec 1 := Scalar.cmpi .eq arg0 c24_i32_13741
  let v45020 : BitVec 32 := Scalar.extui v45019
  let c0_i32_13742 : BitVec 32 := 0#32
  let v45021 : BitVec 1 := Scalar.cmpi .ne v45020 c0_i32_13742
  v45021

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩

abbrev nBuf : Space → Nat
  | .hbm => 281
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S_, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .i32⟩
  | 21 => ⟨S_, .f32⟩
  | 22 => ⟨S_, .i32⟩
  | 23 => ⟨S128, .f32⟩
  | 24 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_cst_8 : Ref sig .tc := ⟨.hbm, 265, rfl⟩
abbrev main_v33 : Ref sig .tc := ⟨.hbm, 266, rfl⟩
abbrev main_v34 : Ref sig .tc := ⟨.hbm, 267, rfl⟩
abbrev main_cst_9 : Ref sig .tc := ⟨.hbm, 268, rfl⟩
abbrev main_v35 : Ref sig .tc := ⟨.hbm, 269, rfl⟩
abbrev main_v36 : Ref sig .tc := ⟨.hbm, 270, rfl⟩
abbrev main_v37 : Ref sig .tc := ⟨.hbm, 271, rfl⟩
abbrev main_v38 : Ref sig .tc := ⟨.hbm, 272, rfl⟩
abbrev main_v39 : Ref sig .tc := ⟨.hbm, 273, rfl⟩
abbrev main_v40 : Ref sig .tc := ⟨.hbm, 274, rfl⟩
abbrev main_v41 : Ref sig .tc := ⟨.hbm, 275, rfl⟩
abbrev main_call1_v0 : Ref sig .tc := ⟨.hbm, 276, rfl⟩
abbrev main_call1_cst : Ref sig .tc := ⟨.hbm, 277, rfl⟩
abbrev main_call1_c : Ref sig .tc := ⟨.hbm, 278, rfl⟩
abbrev main_call1_v1_0 : Ref sig .tc := ⟨.hbm, 279, rfl⟩
abbrev main_v42 : Ref sig .tc := ⟨.hbm, 280, rfl⟩

abbrev nD : Nat := 1
abbrev τ : Topo := Topo.v7x

variable {F : FTy → Type} [FloatOps F]
-- ==== Proof.Tile.lean ====
module

public import proofs.«01_k».proof.KernelIdeal

@[expose] public section

noncomputable section

namespace Cert.KernelIdeal

open Idealize.ShloMosaic Idealize.SL.Sem
open Facts₀ Facts

/-- One mixing step of the generator's second word: rotate it left (`r + s = 32`), then xor the first word in. -/
def turn (x0 x1 : IVec S16x128 32) (r s : BitVec 32) : IVec S16x128 32 :=
  xori (ori (shli x1 (broadcast S16x128 r)) (shrui x1 (broadcast S16x128 s))) x0

/-- The second word at the counters `c` after step 1. -/
def y1 (c : IVec S16x128 32) : IVec S16x128 32 := turn c c 13#32 19#32
/-- The first word after step 1, the second taken in. -/
def x1 (c : IVec S16x128 32) : IVec S16x128 32 := addi c (y1 c)

/-- The second word at the counters `c` after step 2. -/
def y2 (c : IVec S16x128 32) : IVec S16x128 32 := turn (x1 c) (y1 c) 15#32 17#32
/-- The first word after step 2, the second taken in. -/
def x2 (c : IVec S16x128 32) : IVec S16x128 32 := addi (x1 c) (y2 c)

/-- The second word at the counters `c` after step 3. -/
def y3 (c : IVec S16x128 32) : IVec S16x128 32 := turn (x2 c) (y2 c) 26#32 6#32
/-- The first word after step 3, the second taken in. -/
def x3 (c : IVec S16x128 32) : IVec S16x128 32 := addi (x2 c) (y3 c)

/-- The second word at the counters `c` after step 4 and its key word. -/
def y4 (c : IVec S16x128 32) : IVec S16x128 32 := addi (turn (x3 c) (y3 c) 6#32 26#32) (broadcast S16x128 466689009#32)
/-- The first word after step 4 and its key word, the second taken in. -/
def x4 (c : IVec S16x128 32) : IVec S16x128 32 := addi (addi (x3 c) (broadcast S16x128 42#32)) (y4 c)

/-- The second word at the counters `c` after step 5. -/
def y5 (c : IVec S16x128 32) : IVec S16x128 32 := turn (x4 c) (y4 c) 17#32 15#32
/-- The first word after step 5, the second taken in. -/
def x5 (c : IVec S16x128 32) : IVec S16x128 32 := addi (x4 c) (y5 c)

/-- The second word at the counters `c` after step 6. -/
def y6 (c : IVec S16x128 32) : IVec S16x128 32 := turn (x5 c) (y5 c) 29#32 3#32
/-- The first word after step 6, the second taken in. -/
def x6 (c : IVec S16x128 32) : IVec S16x128 32 := addi (x5 c) (y6 c)

/-- The second word at the counters `c` after step 7. -/
def y7 (c : IVec S16x128 32) : IVec S16x128 32 := turn (x6 c) (y6 c) 16#32 16#32
/-- The first word after step 7, the second taken in. -/
def x7 (c : IVec S16x128 32) : IVec S16x128 32 := addi (x6 c) (y7 c)

/-- The second word at the counters `c` after step 8 and its key word. -/
def y8 (c : IVec S16x128 32) : IVec S16x128 32 := addi (turn (x7 c) (y7 c) 24#32 8#32) (broadcast S16x128 2#32)
/-- The first word after step 8 and its key word, the second taken in. -/
def x8 (c : IVec S16x128 32) : IVec S16x128 32 := addi (addi (x7 c) (broadcast S16x128 466689008#32)) (y8 c)

/-- The second word at the counters `c` after step 9. -/
def y9 (c : IVec S16x128 32) : IVec S16x128 32 := turn (x8 c) (y8 c) 13#32 19#32
/-- The first word after step 9, the second taken in. -/
def x9 (c : IVec S16x128 32) : IVec S16x128 32 := addi (x8 c) (y9 c)

/-- The second word at the counters `c` after step 10. -/
def y10 (c : IVec S16x128 32) : IVec S16x128 32 := turn (x9 c) (y9 c) 15#32 17#32
/-- The first word after step 10, the second taken in. -/
def x10 (c : IVec S16x128 32) : IVec S16x128 32 := addi (x9 c) (y10 c)

/-- The second word at the counters `c` after step 11. -/
def y11 (c : IVec S16x128 32) : IVec S16x128 32 := turn (x10 c) (y10 c) 26#32 6#32
/-- The first word after step 11, the second taken in. -/
def x11 (c : IVec S16x128 32) : IVec S16x128 32 := addi (x10 c) (y11 c)

/-- The second word at the counters `c` after step 12 and its key word. -/
def y12 (c : IVec S16x128 32) : IVec S16x128 32 := addi (turn (x11 c) (y11 c) 6#32 26#32) (broadcast S16x128 45#32)
/-- The first word after step 12 and its key word, the second taken in. -/
def x12 (c : IVec S16x128 32) : IVec S16x128 32 := addi (x11 c) (y12 c)

/-- The second word at the counters `c` after step 13. -/
def y13 (c : IVec S16x128 32) : IVec S16x128 32 := turn (x12 c) (y12 c) 17#32 15#32
/-- The first word after step 13, the second taken in. -/
def x13 (c : IVec S16x128 32) : IVec S16x128 32 := addi (x12 c) (y13 c)

/-- The second word at the counters `c` after step 14. -/
def y14 (c : IVec S16x128 32) : IVec S16x128 32 := turn (x13 c) (y13 c) 29#32 3#32
/-- The first word after step 14, the second taken in. -/
def x14 (c : IVec S16x128 32) : IVec S16x128 32 := addi (x13 c) (y14 c)

/-- The second word at the counters `c` after step 15. -/
def y15 (c : IVec S16x128 32) : IVec S16x128 32 := turn (x14 c) (y14 c) 16#32 16#32
/-- The first word after step 15, the second taken in. -/
def x15 (c : IVec S16x128 32) : IVec S16x128 32 := addi (x14 c) (y15 c)

/-- The second word at the counters `c` after step 16 and its key word. -/
def y16 (c : IVec S16x128 32) : IVec S16x128 32 := addi (turn (x15 c) (y15 c) 24#32 8#32) (broadcast S16x128 466689012#32)
/-- The first word after step 16 and its key word, the second taken in. -/
def x16 (c : IVec S16x128 32) : IVec S16x128 32 := addi (addi (x15 c) (broadcast S16x128 42#32)) (y16 c)

/-- The second word at the counters `c` after step 17. -/
def y17 (c : IVec S16x128 32) : IVec S16x128 32 := turn (x16 c) (y16 c) 13#32 19#32
/-- The first word after step 17, the second taken in. -/
def x17 (c : IVec S16x128 32) : IVec S16x128 32 := addi (x16 c) (y17 c)

/-- The second word at the counters `c` after step 18. -/
def y18 (c : IVec S16x128 32) : IVec S16x128 32 := turn (x17 c) (y17 c) 15#32 17#32
/-- The first word after step 18, the second taken in. -/
def x18 (c : IVec S16x128 32) : IVec S16x128 32 := addi (x17 c) (y18 c)

/-- The second word at the counters `c` after step 19. -/
def y19 (c : IVec S16x128 32) : IVec S16x128 32 := turn (x18 c) (y18 c) 26#32 6#32
/-- The first word after step 19, the second taken in. -/
def x19 (c : IVec S16x128 32) : IVec S16x128 32 := addi (x18 c) (y19 c)

/-- The generator's word at the counters `c`. -/
def word (c : IVec S16x128 32) : IVec S16x128 32 :=
  xori (addi (x19 c) (broadcast S16x128 466689008#32)) (addi (turn (x19 c) (y19 c) 6#32 26#32) (broadcast S16x128 5#32))

section
variable {F : FTy → Type} [FloatOps F] [Facts]

/-- The number in `[1, 2)` whose fraction is the top 23 bits of the word at the counters `c`. -/
def unit (c : IVec S16x128 32) : FVec F S16x128 .f32 :=
  bitcastToFloat .f32 (ori (shrui (word c) (broadcast S16x128 9#32)) (broadcast S16x128 1065353216#32))

/-- Minus the logarithm of the uniform number at the counters `c`. -/
def expo (c : IVec S16x128 32) : FVec F S16x128 .f32 :=
  subf (broadcast S16x128 (Scalar.ofBits .f32 0x00000000#32))
    (log (addf (subf (unit c) (broadcast S16x128 (Scalar.ofBits .f32 0x3F800000#32))) (broadcast S16x128 (Scalar.ofBits .f32 0x00800000#32))))

/-- The logarithm of minus the logarithm of the uniform number at the counters `c`. -/
def noise (c : IVec S16x128 32) : FVec F S16x128 .f32 := log (expo c)

/-- The perturbed values of a tile: the loaded logits less the noise at the counters `c`. -/
def vals (c : IVec S16x128 32) (x : Vec F S16x128 .f32) : FVec F S16x128 .f32 :=
  subf (shapeCast S16x128 x shapeCasts_S16x128_S16x128) (noise c)

/-- The running maxima after a tile. -/
def maxNext (c : IVec S16x128 32) (x : Vec F S16x128 .f32) (rm : FVec F S16x128 .f32) : FVec F S16x128 .f32 :=
  select (cmpf .ogt (vals c x) rm) (vals c x) rm

/-- The running counters of the maxima after a tile. -/
def idxNext (c : IVec S16x128 32) (x : Vec F S16x128 .f32) (rm : FVec F S16x128 .f32) (ri : IVec S16x128 32) : IVec S16x128 32 :=
  select (cmpf .ogt (vals c x) rm) c ri

/-- The counters of lane `(r, l)` before any offset: `l · 100000 + r + 42`. -/
def base : IVec S16x128 32 :=
  addi (addi (muli (iota .tc S16x128 32 [1] iota_S16x128_d1_w32) (broadcast S16x128 100000#32))
    (iota .tc S16x128 32 [0] iota_S16x128_d0_w32)) (broadcast S16x128 42#32)

/-- The counters of tile `t` at step `a`. -/
def ctr (a : BitVec 32) (t : Nat) : IVec S16x128 32 :=
  addi base (broadcast S16x128 (Scalar.addi (Scalar.muli a 4000#32) (BitVec.ofNat 32 (16 * t))))

/-- A tile's rows lie inside the block. -/
theorem inb_tile (t : Nat) (h : t < 250) : ∀ a, (![16 * t, 0] : Fin 2 → Nat) a + S16x128.size a ≤ S4000x128.size a := by
  intro a
  fin_cases a
  · show 16 * t + 16 ≤ 4000
    omega
  · exact Nat.le_refl 128

/-- `n` tiles from tile `t` on, then `k` of the running maxima and their counters. -/
def tiles (arg1 : Memref sig .tc .vmem S4000x128 .f32) (a : BitVec 32)
    (k : FVec F S16x128 .f32 → IVec S16x128 32 → Prog (TpuEff nD τ sig (Elt F) Λ₀ .tc) PUnit) :
    (n t : Nat) → t + n ≤ 250 → FVec F S16x128 .f32 → IVec S16x128 32 → Prog (TpuEff nD τ sig (Elt F) Λ₀ .tc) PUnit
  | 0, _, _, rm, ri => k rm ri
  | n + 1, t, h, rm, ri =>
    .op (.load arg1 (Rect.unit (s := S4000x128) ![16 * t, 0] S16x128.size (inb_tile t (by omega))).toLoadRect (View.loadsAt_vmem h_S16x128))
      fun x => tiles arg1 a k n (t + 1) (by omega) (maxNext (ctr a t) x rm) (idxNext (ctr a t) x rm ri)

/-- Tiles done in two runs, one after the other. -/
theorem tiles_add (arg1 : Memref sig .tc .vmem S4000x128 .f32) (a : BitVec 32)
    (k : FVec F S16x128 .f32 → IVec S16x128 32 → Prog (TpuEff nD τ sig (Elt F) Λ₀ .tc) PUnit) (m : Nat) :
    ∀ (n t : Nat) (h : t + n ≤ 250) (h' : t + n + m ≤ 250) (h'' : t + (n + m) ≤ 250) (rm : FVec F S16x128 .f32) (ri : IVec S16x128 32),
      tiles arg1 a (fun rm ri => tiles arg1 a k m (t + n) h' rm ri) n t h rm ri = tiles arg1 a k (n + m) t h'' rm ri
  | 0, t, h, h', h'', rm, ri => by
    simp only [tiles, Nat.zero_add, Nat.add_zero]
  | n + 1, t, h, h', h'', rm, ri => by
    have e : n + 1 + m = (n + m) + 1 := by omega
    simp only [e, tiles]
    congr 1
    funext x
    rw [← tiles_add arg1 a k m n (t + 1) (by omega) (by omega) (by omega)]
    have e' : t + (n + 1) = t + 1 + n := by omega
    simp only [e']

end

end Cert.KernelIdeal
-- ==== Proof.Rolled.lean ====
module

public import proofs.«01_k».proof.Proof.Tile

@[expose] public section

noncomputable section

namespace Cert.KernelIdeal

open Idealize.ShloMosaic Idealize.SL.Sem
open Facts₀ Facts
variable {F : FTy → Type} [FloatOps F] [Facts]

/-- The lanes whose running maximum is the largest of its column keep their counter; the others take the largest word. -/
def cands (rm : FVec F S16x128 .f32) (ri : IVec S16x128 32) : IVec S16x128 32 :=
  select (cmpf .oeq rm (broadcastTo S16x128 (shapeCast S1x128
    (multiReduction .maximumf [0] S128 rm 0xFF800000#32 reduces_S16x128_S128 (.inl rfl) rfl) shapeCasts_S128_S1x128) broadcasts_S1x128_S16x128))
    ri (broadcast S16x128 2147483647#32)

/-- The result row: the smallest candidate of each column, less the column's offset and the key word. -/
def answer (rm : FVec F S16x128 .f32) (ri : IVec S16x128 32) : IVec S1x128 32 :=
  subi (subi (shapeCast S1x128 (multiReductionI .minsi [0] S128 (cands rm ri) 2147483647#32 reduces_S16x128_S128 rfl) shapeCasts_S128_S1x128)
    (muli (iota .tc S1x128 32 [1] iota_S1x128_d1_w32) (broadcast S1x128 100000#32))) (broadcast S1x128 42#32)

/-- What the body does after its last tile: keep the running maxima and counters in the scratch buffers, and at the last step store the result row. -/
def finish (i : grid0.Coords) (arg2 : Memref sig .tc .vmem S1x128 .i32) (arg3 : Memref sig .tc .vmem S16x128 .f32) (arg4 : Memref sig .tc .vmem S16x128 .i32)
    (rm : FVec F S16x128 .f32) (ri : IVec S16x128 32) : Prog (TpuEff nD τ sig (Elt F) Λ₀ .tc) PUnit :=
  .op (.load arg3 (Rect.unit (s := S16x128) ![0, 0] S16x128.size inb_S16x128_S16x128_0_0).toLoadRect (View.loadsAt_vmem h_S16x128)) fun _ =>
  .op (.store arg3 (Rect.unit (s := S16x128) ![0, 0] S16x128.size inb_S16x128_S16x128_0_0) (shapeCast S16x128 rm shapeCasts_S16x128_S16x128) Finset.univ (View.stores_vmem_bits_univ h_S16x128 rfl) (.inl rfl)) fun _ =>
  .op (.load arg4 (Rect.unit (s := S16x128) ![0, 0] S16x128.size inb_S16x128_S16x128_0_0).toLoadRect (View.loadsAt_vmem h_S16x128)) fun _ =>
  .op (.store arg4 (Rect.unit (s := S16x128) ![0, 0] S16x128.size inb_S16x128_S16x128_0_0) (shapeCast S16x128 ri shapeCasts_S16x128_S16x128) Finset.univ (View.stores_vmem_bits_univ h_S16x128 rfl) (.inl rfl)) fun _ =>
  if k0_h1 : k0_cond1 i = 1#1 then
    .op (.load arg2 (Rect.unit (s := S1x128) ![0, 0] S1x128.size inb_S1x128_S1x128_0_0).toLoadRect (View.loadsAt_vmem h_S1x128)) fun _ =>
    .op (.store arg2 (Rect.unit (s := S1x128) ![0, 0] S1x128.size inb_S1x128_S1x128_0_0) (answer rm ri) Finset.univ (View.stores_vmem_bits_univ h_S1x128 rfl) (.inl rfl)) fun _ => .ret ⟨⟩
  else .ret ⟨⟩

/-- The running maxima a step starts from: the scratch buffer's, and minus infinity at the first step. -/
def start (i : grid0.Coords) (rm0 : FVec F S16x128 .f32) : FVec F S16x128 .f32 :=
  Scalar.select (Scalar.cmpi .eq (BitVec.ofNat 32 (i 0).val) 0#32) (broadcast S16x128 (Scalar.ofBits .f32 0xFF800000#32)) rm0

/-- The body over its tiles: read the scratch buffers, go over the 250 tiles, and finish. -/
def rolled (i : grid0.Coords) (arg1 : Memref sig .tc .vmem S4000x128 .f32) (arg2 : Memref sig .tc .vmem S1x128 .i32) (arg3 : Memref sig .tc .vmem S16x128 .f32) (arg4 : Memref sig .tc .vmem S16x128 .i32) :
    Prog (TpuEff nD τ sig (Elt F) Λ₀ .tc) PUnit :=
  .op (.load arg3 (Rect.unit (s := S16x128) ![0, 0] S16x128.size inb_S16x128_S16x128_0_0).toLoadRect (View.loadsAt_vmem h_S16x128)) fun (rm0 : Vec F S16x128 .f32) =>
  .op (.load arg4 (Rect.unit (s := S16x128) ![0, 0] S16x128.size inb_S16x128_S16x128_0_0).toLoadRect (View.loadsAt_vmem h_S16x128)) fun (ri0 : Vec F S16x128 .i32) =>
  tiles arg1 (BitVec.ofNat 32 (i 0).val) (finish i arg2 arg3 arg4) 250 0 (by omega) (start i rm0) ri0

set_option maxRecDepth 10000000 in
set_option maxHeartbeats 0 in
/-- The printed body is the body over its tiles. -/
theorem body_eq (i : grid0.Coords) (arg1 : Memref sig .tc .vmem S4000x128 .f32) (harg1 : arg1.IsWhole) (arg2 : Memref sig .tc .vmem S1x128 .i32) (harg2 : arg2.IsWhole) (arg3 : Memref sig .tc .vmem S16x128 .f32) (harg3 : arg3.IsWhole) (arg4 : Memref sig .tc .vmem S16x128 .i32) (harg4 : arg4.IsWhole) :
    cc0__sample_kernel (F := F) i arg1 harg1 arg2 harg2 arg3 harg3 arg4 harg4 = rolled i arg1 arg2 arg3 arg4 := (rfl)

end Cert.KernelIdeal
-- ==== Proof.Body.lean ====
module

public import proofs.«01_k».proof.Proof.Rolled
public import proofs.«01_k».proof.Proof.Gen.KernelIdeal.Frame
public import Idealize.ShloMosaic.Lib.Pipeline.Value

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- Tile `t` of a block: its rows from `16 t` on. -/
def tileOf (X : S4000x128.Idx → Elt F .f32) (t : Nat) : Vec F S16x128 .f32 :=
  if h : t < 250 then View.ld (e' := .f32) X (Rect.unit (s := S4000x128) ![16 * t, 0] S16x128.size (inb_tile t h))
  else broadcast S16x128 (Scalar.ofBits .f32 0x00000000#32)

/-- The running maxima of a block's first `n` tiles, from `rm`. -/
def maxAt (a : BitVec 32) (X : S4000x128.Idx → Elt F .f32) (rm : FVec F S16x128 .f32) : Nat → FVec F S16x128 .f32
  | 0 => rm
  | n + 1 => maxNext (ctr a n) (tileOf X n) (maxAt a X rm n)

/-- The counters of the running maxima of a block's first `n` tiles, from `rm` and `ri`. -/
def idxAt (a : BitVec 32) (X : S4000x128.Idx → Elt F .f32) (rm : FVec F S16x128 .f32) (ri : IVec S16x128 32) : Nat → IVec S16x128 32
  | 0 => ri
  | n + 1 => idxNext (ctr a n) (tileOf X n) (maxAt a X rm n) (idxAt a X rm ri n)

/-- The running maxima a step leaves in the scratch buffer. -/
def maxStep (i : grid0.Coords) (X : S4000x128.Idx → Elt F .f32) (rm : FVec F S16x128 .f32) : FVec F S16x128 .f32 :=
  maxAt (BitVec.ofNat 32 (i 0).val) X (start i rm) 250

/-- The counters a step leaves in the scratch buffer. -/
def idxStep (i : grid0.Coords) (X : S4000x128.Idx → Elt F .f32) (rm : FVec F S16x128 .f32) (ri : IVec S16x128 32) : IVec S16x128 32 :=
  idxAt (BitVec.ofNat 32 (i 0).val) X (start i rm) ri 250

/-- Going over the tiles from tile `t` on, with the block held: the continuation is reached at the running maxima and
    counters of all the tiles, the block still held. -/
theorem wp_tiles (c : Dev nD) (E : Set ℕ) (arg1 : Memref sig .tc .vmem S4000x128 .f32) (a : BitVec 32)
    (k : FVec F S16x128 .f32 → IVec S16x128 32 → Prog (TpuEff nD τ sig (Elt F) Λ₀ .tc) PUnit)
    (X : S4000x128.Idx → Elt F .f32) (rm : FVec F S16x128 .f32) (ri : IVec S16x128 32) (Q : PUnit → sProp 𝕄) :
    ∀ (n t : Nat) (h : t + n ≤ 250),
      iprop(owns (c : Thread nD τ) arg1 fullShare X
          ∗ (owns (c : Thread nD τ) arg1 fullShare X
            -∗ wp frame (wpE (defs₀ (F := F)) Variants.none c none) E (k (maxAt a X rm (t + n)) (idxAt a X rm ri (t + n))) Q))
        ⊢ wp frame (wpE (defs₀ (F := F)) Variants.none c none) E (tiles arg1 a k n t h (maxAt a X rm t) (idxAt a X rm ri t)) Q
  | 0, t, h => by
    simp only [tiles, Nat.add_zero]
    iintro ⟨H, Hk⟩
    iapply Hk
    iexact H
  | n + 1, t, h => by
    have ih := wp_tiles c E arg1 a k X rm ri Q n (t + 1) (by omega)
    have e : t + (n + 1) = t + 1 + n := by omega
    have e₁ : maxAt a X rm (t + (n + 1)) = maxAt a X rm (t + 1 + n) := congrArg _ e
    have e₂ : idxAt a X rm ri (t + (n + 1)) = idxAt a X rm ri (t + 1 + n) := congrArg _ e
    rw [e₁, e₂]
    simp only [tiles]
    iintro ⟨H, Hk⟩
    unfold owns
    icases H with ⟨%f, %hf, H⟩
    have ht : t < 250 := by omega
    have hx : arg1.view.readAt (Elt F) (Rect.unit (s := S4000x128) ![16 * t, 0] S16x128.size (inb_tile t ht)).toLoadRect f = tileOf X t := by
      unfold tileOf
      rw [dif_pos ht, ← hf]
      rfl
    iapply (wp_load Variants.none (c : Thread nD τ) none E (View.setOn_subset_set _ _)) $$ H
    iintro H
    rw [hx]
    iapply ih
    isplitl [H]
    · unfold owns
      iexists f
      isplitr
      · ipureintro; exact hf
      iexact H
    iexact Hk

/-- The kernel body on the staging buffers `s0` of the logits' window and `s1` of the result's, and on the scratch
    buffers: the logits' buffer stays, the scratch buffers end at the step's running maxima and counters, and at the
    last step the result's buffer ends at the answer they give. -/
theorem sound_body (c : Dev nD) (E : Set ℕ) (i : grid0.Coords) (s0 : Fin 2) (s1 : Fin 1)
    (X0 : S4000x128.Idx → Elt F .f32) (X1 : S1x128.Idx → Elt F .i32) (R : S16x128.Idx → Elt F .f32) (I : S16x128.Idx → Elt F .i32)
    (K : PUnit → sProp 𝕄) :
    iprop(owns (c : Thread nD τ) (stage0_0 s0) fullShare X0 ∗ owns (c : Thread nD τ) (stage0_1 s1) fullShare X1
          ∗ (((c : Thread nD τ).loc cc0_scratch0) ↦{fullShare} R) ∗ (((c : Thread nD τ).loc cc0_scratch1) ↦{fullShare} I)
          ∗ (iprop(owns (c : Thread nD τ) (stage0_0 s0) fullShare X0
                ∗ owns (c : Thread nD τ) (stage0_1 s1) fullShare
                    (if k0_cond1 i = 1#1 then answer (maxStep i X0 R) (idxStep i X0 R I) else X1)
                ∗ (((c : Thread nD τ).loc cc0_scratch0) ↦{fullShare} maxStep i X0 R)
                ∗ (((c : Thread nD τ).loc cc0_scratch1) ↦{fullShare} idxStep i X0 R I)) -∗ K ⟨⟩))
      ⊢ wp frame (wpE (defs₀ (F := F)) Variants.none c none) E
          (cc0__sample_kernel i (stage0_0 s0) (hstage0_0 s0) (stage0_1 s1) (hstage0_1 s1)
            (Memref.whole cc0_scratch0) (Memref.isWhole_whole _) (Memref.whole cc0_scratch1) (Memref.isWhole_whole _)) K := by
  have hz : (![0, 0] : Fin 2 → Nat) = fun _ => 0 := funext fun a => by fin_cases a <;> rfl
  have hr3 : ∀ f, (Memref.whole cc0_scratch0 : Memref sig .tc _ _ _).view.readAt (Elt F) (Rect.unit (s := S16x128) ![0, 0] S16x128.size
      inb_S16x128_S16x128_0_0).toLoadRect f = f := Memref.readAt_unit_zero (Elt F) cc0_scratch0 hz _
  have hr4 : ∀ f, (Memref.whole cc0_scratch1 : Memref sig .tc _ _ _).view.readAt (Elt F) (Rect.unit (s := S16x128) ![0, 0] S16x128.size
      inb_S16x128_S16x128_0_0).toLoadRect f = f := Memref.readAt_unit_zero (Elt F) cc0_scratch1 hz _
  have hw3 : ∀ f w, (((Memref.whole cc0_scratch0).access (Rect.unit (s := S16x128) ![0, 0] S16x128.size inb_S16x128_S16x128_0_0)) :
      View sig .tc _ _ _).write (Elt F) f w Finset.univ = w := Memref.write_access_unit_zero_univ (Elt F) cc0_scratch0 hz _
  have hw4 : ∀ f w, (((Memref.whole cc0_scratch1).access (Rect.unit (s := S16x128) ![0, 0] S16x128.size inb_S16x128_S16x128_0_0)) :
      View sig .tc _ _ _).write (Elt F) f w Finset.univ = w := Memref.write_access_unit_zero_univ (Elt F) cc0_scratch1 hz _
  have hw2 : ∀ f w, (((Memref.whole cc0_stg1_0).access (Rect.unit (s := S1x128) ![0, 0] S1x128.size inb_S1x128_S1x128_0_0)) :
      View sig .tc _ _ _).write (Elt F) f w Finset.univ = w := Memref.write_access_unit_zero_univ (Elt F) cc0_stg1_0 hz _
  rw [body_eq]
  unfold rolled
  fin_cases s1
  iintro ⟨H0, H1, H3, H4, Hk⟩
  sl_step
  sl_step
  rw [hr3, hr4]
  iapply (wp_tiles c E (stage0_0 s0) (BitVec.ofNat 32 (i 0).val) _ X0 (start i R) I K 250 0 (by omega))
  isplitl [H0]; · iexact H0
  iintro H0
  have e₁ : maxAt (BitVec.ofNat 32 (i 0).val) X0 (start i R) (0 + 250) = maxStep i X0 R := rfl
  have e₂ : idxAt (BitVec.ofNat 32 (i 0).val) X0 (start i R) I (0 + 250) = idxStep i X0 R I := rfl
  rw [e₁, e₂]
  generalize maxStep i X0 R = R'
  generalize idxStep i X0 R I = I'
  unfold finish
  sl_step
  sl_step
  sl_step
  sl_step
  rw [hw3, hw4]
  have h3 : shapeCast S16x128 R' shapeCasts_S16x128_S16x128 = R' := Idealize.ShloMosaic.shapeCast_self _ _
  have h4 : shapeCast S16x128 I' shapeCasts_S16x128_S16x128 = I' := Idealize.ShloMosaic.shapeCast_self _ _
  rw [h3, h4]
  by_cases hc : k0_cond1 i = 1#1
  · rw [dif_pos hc, if_pos hc]
    have hopen : (owns (c : Thread nD τ) (Memref.whole cc0_stg1_0) fullShare X1 : sProp 𝕄)
        ⊢ iprop(∃ f : Buf (Elt F) ((c : Thread nD τ).loc cc0_stg1_0), ⌜f = X1⌝ ∗ (((c : Thread nD τ).loc cc0_stg1_0) ↦{fullShare} f)) := by
      rw [owns_whole_eq]
    have hclose : iprop(∃ f : Buf (Elt F) ((c : Thread nD τ).loc cc0_stg1_0), ⌜f = answer R' I'⌝ ∗ (((c : Thread nD τ).loc cc0_stg1_0) ↦{fullShare} f))
        ⊢ (owns (c : Thread nD τ) (Memref.whole cc0_stg1_0) fullShare (answer R' I') : sProp 𝕄) := by
      rw [owns_whole_eq]
    icases hopen $$ H1 with ⟨%f1, %hf1, H1⟩
    sl_step
    sl_step
    rw [hw2]
    sl_step
    iapply Hk
    isplitl [H0]; · iexact H0
    isplitl [H1]
    · iapply hclose
      iexists _
      isplitr
      · ipureintro; rfl
      iexact H1
    isplitl [H3]; · iexact H3
    iexact H4
  · rw [dif_neg hc, if_neg hc]
    sl_step
    iapply Hk
    isplitl [H0]; · iexact H0
    isplitl [H1]; · iexact H1
    isplitl [H3]; · iexact H3
    iexact H4

end Cert.KernelIdeal
-- ==== Proof.Run.lean ====
module

public import proofs.«01_k».proof.Proof.Body

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Facts₀ Facts

variable {F : FTy → Type} [FloatOps F]

local notation "𝕄" => MT nD τ sig Unit (Elt F) ℕ (UR sig nD τ) ℕ

variable (m : (ℓ : Loc nD τ sig) → Buf (Elt F) ℓ)

/-- The body table's row at a point is the body there. -/
theorem defs₀_row (t : Fin cfg0.N) :
    defs₀ (F := F) .tc cfg0.body (cfg0.bodyArgs t (cfg0.slots t)) = Gen.bodyAt0 t := by
  unfold defs₀
  rw [Defs.onTc_tc]

/-! ## The frame: the scratch buffers and the result forgotten -/

/-- The proof data that forget what the scratch buffers hold between points. -/
def loose (_ : Fin 1) (c : Dev nD) : Dat τ (Elt F) Unit ℕ (UR sig nD τ) ℕ cfg0 c where
  A w := Gen.V m c (Pipeline.arrRef spec0 w)
  after := fun
    | 0, t => Gen.iblk m c 0 t
    | 1, t => Dat.unnamed 1 t
    | ⟨_ + 2, h⟩, _ => absurd h (Nat.not_lt.2 (Nat.le_add_left _ _))
  Φ _ := Pipeline.ΦA spec0 c
  q _ := fullShare
  owed _ := 0

/-- The window whose contents the frame forgets: the result's. -/
def forget : Fin 2 → Bool := fun
  | 0 => false
  | 1 => true
  | ⟨_ + 2, h⟩ => absurd h (Nat.not_lt.2 (Nat.le_add_left _ _))

/-- The logits' buffer holds its block at every point. -/
theorem loose_before (c : Dev nD) (t : Fin cfg0.N) (d) : (loose m 0 c).before 0 t d = Gen.iblk m c 0 t :=
  Gen.before0_0_of m (loose m 0 c) rfl (fun _ => rfl) t d

/-- The body obligation of the frame. -/
theorem loose_obligation (c : Dev nD) :
    BodyObligationLoose (loose m 0 c) (defs₀ (F := F)) Variants.none () Set.univ forget := fun t => by
  rw [Gen.bigSep_W0, Gen.bigSep_W0, defs₀_row]
  simp only [forget]
  rw [show (loose m 0 c).Φ t.succ = Pipeline.ΦA spec0 c from rfl, show (loose m 0 c).Φ t.castSucc = Pipeline.ΦA spec0 c from rfl,
    show (loose m 0 c).owesAt () t.succ = (loose m 0 c).owesAt () t.castSucc from rfl]
  unfold Pipeline.ΦA
  rw [Gen.scopedRest0_eq]
  iintro ⟨⟨⟨⟨%R, H3⟩, ⟨%I, H4⟩⟩, Hr⟩, Ho, ⟨%d, H0⟩, ⟨%X1, H1⟩⟩
  rw [loose_before]
  iapply (sound_body c Set.univ (grid0.coords t) ((cfg0.slots t 0).cast nbuf0_0) ((cfg0.slots t 1).cast nbuf0_1) (Gen.iblk m c 0 t) X1 R I _)
  isplitl [H0]; · iexact H0
  isplitl [H1]; · iexact H1
  isplitl [H3]; · iexact H3
  isplitl [H4]; · iexact H4
  iintro ⟨H0, H1, H3, H4⟩
  isplitl [H3 H4 Hr]
  · isplitl [H3 H4]
    · isplitl [H3]
      · iexists _; iexact H3
      iexists _; iexact H4
    iexact Hr
  isplitl [Ho]; · iexact Ho
  isplitl [H0]; · iexact H0
  iexists _
  iexact H1

/-- THE FRAME of the kernel at any float domain: it runs, its argument ends unchanged, and every semaphore ends at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.θ_run_frame_around_T_forget cfgs (loose m) 0 Gen.launch0 defs₀ Variants.none forget {main_v2} m ρ main
    (loose_obligation m) (fun c w => (by unfold Dat.share; split <;> rfl)) (fun _ _ => rfl) (Gen.V0 m) [Gen.hostOps1]
    Gen.sfx_sub Gen.sfx_fresh Gen.sfx_keeps
    (by
      intro ops hops op hop b hb
      simp only [List.mem_cons, List.mem_nil_iff, or_false] at hops
      subst hops
      simp only [Gen.hostOps1, List.mem_cons, List.mem_nil_iff, or_false] at hop
      subst hop
      rw [StableHlo.reshape_writes, Finset.mem_singleton] at hb
      rw [Finset.mem_singleton]
      by_contra hne
      exact StableHlo.devRef_ne_of_ne hne hb)
    (Gen.hmain m Variants.none) (fun _ _ => rfl) (fun _ _ => rfl) _
    (fun r h => ⟨fun c => ((h.1 c).2 main_arg0 (Finset.mem_sdiff.mpr
      ⟨Pipeline.mem_restRefs_of main_arg0 (by decide) (by decide), by decide⟩)).trans (Gen.V_main_arg0 m c), h.2⟩)

end Cert.KernelIdeal
-- ==== Proof.Same.lean ====
module

public import proofs.«01_k».proof.Kernel
public import proofs.«01_k».proof.Proof.Gen.Kernel
public import proofs.«01_k».proof.Proof.Run

@[expose] public section

noncomputable section

namespace Cert.Kernel

open Idealize.ShloMosaic Idealize.ShloMosaic.TcCoe Idealize.SL.Sem

variable {F : FTy → Type} [FloatOps F]

set_option maxRecDepth 10000000 in
set_option maxHeartbeats 0 in
/-- The kernel's printed body is the body over its tiles. -/
theorem body_eq (i : grid0.Coords) (arg1 : Memref sig .tc .vmem S4000x128 .f32) (harg1 : arg1.IsWhole) (arg2 : Memref sig .tc .vmem S1x128 .i32) (harg2 : arg2.IsWhole) (arg3 : Memref sig .tc .vmem S16x128 .f32) (harg3 : arg3.IsWhole) (arg4 : Memref sig .tc .vmem S16x128 .i32) (harg4 : arg4.IsWhole) :
    cc0__sample_kernel (F := F) i arg1 harg1 arg2 harg2 arg3 harg3 arg4 harg4 = Cert.KernelIdeal.rolled i arg1 arg2 arg3 arg4 := (rfl)

/-- The kernel's body table is the idealized program's, before its floats are chosen. -/
theorem defs₀_eq : defs₀ (F := F) = Cert.KernelIdeal.defs₀ (F := F) :=
  congrArg Defs.onTc (funext fun l => funext fun x => match l, x with
    | 0, (t, s) => (body_eq _ _ _ _ _ _ _ _ _).trans (Cert.KernelIdeal.body_eq _ _ _ _ _ _ _ _ _).symm
    | ⟨_ + 1, h⟩, _ => absurd h (Nat.not_lt.2 (Nat.le_add_left _ _)))

/-- So is the program's table. -/
theorem defs_eq : defs (F := F) = Cert.KernelIdeal.defs (F := F) := congrArg (Pipeline.defs _) defs₀_eq

/-- So is its main function. -/
theorem main_eq : main (F := F) = Cert.KernelIdeal.main (F := F) := (rfl)

/-- THE FRAME of the kernel as written: it runs, its argument ends unchanged, and every semaphore ends at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) := by
  rw [defs_eq]
  exact Cert.KernelIdeal.frame m ρ

end Cert.Kernel
-- ==== Proof.RefSteps.lean ====
module

public import proofs.«01_k».proof.ReferenceIdeal
public import Idealize.ShloMosaic.Lib.StableHlo.Run

@[expose] public section

noncomputable section

namespace Cert.ReferenceIdeal

open Idealize.ShloMosaic Idealize.ShloMosaic.StableHlo Idealize.SL.Sem
open Facts₀ Facts
variable {F : FTy → Type} [FloatOps F] [Facts]

/-- A tensor of words of the reference's size. -/
abbrev Wide : BufTy := ⟨S128x100000, .i32⟩
/-- A single word. -/
abbrev Lone : BufTy := ⟨S_, .i32⟩

/-- The contents of a typed buffer. -/
def rd {T : BufTy} (V : Valuation τ sig (Elt F)) (t : TRef sig T) : T.Contents (Elt F) := t.ofBuf (V (Proc.devRef .tc t.ref))

/-- A constant's buffer holds the constant. -/
theorem rd_nullary {T : BufTy} (V : Valuation τ sig (Elt F)) (y : TRef sig T) (v : T.Contents (Elt F)) :
    rd ((TRef.nullary y v).result V) y = v := by
  rw [rd, TRef.nullary, nullary_result, TRef.ofBuf_toBuf]

/-- The buffer of an operation on one operand holds its value. -/
theorem rd_unary {T U : BufTy} (V : Valuation τ sig (Elt F)) (x : TRef sig U) (y : TRef sig T) (f : U.Contents (Elt F) → T.Contents (Elt F)) :
    rd ((TRef.unary x y f).result V) y = f (rd V x) := by
  rw [rd, TRef.unary, unary_result, TRef.ofBuf_toBuf]; rfl

/-- The buffer of an operation on two operands holds its value. -/
theorem rd_binary {T U W : BufTy} (V : Valuation τ sig (Elt F)) (a : TRef sig U) (b : TRef sig W) (y : TRef sig T)
    (f : U.Contents (Elt F) → W.Contents (Elt F) → T.Contents (Elt F)) :
    rd ((TRef.binary a b y f).result V) y = f (rd V a) (rd V b) := by
  rw [rd, TRef.binary, binary_result, TRef.ofBuf_toBuf]; rfl

/-- A constant leaves the other buffers as they were. -/
theorem rd_nullary_ne {T U : BufTy} (V : Valuation τ sig (Elt F)) (y : TRef sig T) (v : T.Contents (Elt F)) (r : TRef sig U) (h : r.ref ≠ y.ref) :
    rd ((TRef.nullary y v).result V) r = rd V r :=
  congrArg r.ofBuf (nullary_result_ne (τ := τ) y.ref (y.toBuf v) y.dev V h)

/-- An operation on one operand leaves the other buffers as they were. -/
theorem rd_unary_ne {T U W : BufTy} (V : Valuation τ sig (Elt F)) (x : TRef sig U) (y : TRef sig T) (f : U.Contents (Elt F) → T.Contents (Elt F))
    (r : TRef sig W) (h : r.ref ≠ y.ref) : rd ((TRef.unary x y f).result V) r = rd V r :=
  congrArg r.ofBuf (unary_result_ne (τ := τ) x.ref y.ref _ x.dev y.dev V h)

/-- An operation on two operands leaves the other buffers as they were. -/
theorem rd_binary_ne {T U W X : BufTy} (V : Valuation τ sig (Elt F)) (a : TRef sig U) (b : TRef sig W) (y : TRef sig T)
    (f : U.Contents (Elt F) → W.Contents (Elt F) → T.Contents (Elt F)) (r : TRef sig X) (h : r.ref ≠ y.ref) :
    rd ((TRef.binary a b y f).result V) r = rd V r :=
  congrArg r.ofBuf (binary_result_ne (τ := τ) a.ref b.ref y.ref _ a.dev b.dev y.dev V h)

/-- A step of the generator over its buffers: a mixing round that rotates left by `r` (`r + s = 32`), or a key
    injection that adds the key words `k`, `k'` and the counter `n`. -/
inductive Step
  | round (y : TRef sig Wide) (c : TRef sig Lone) (r : BitVec 32) (b l : TRef sig Wide) (c' : TRef sig Lone) (s : BitVec 32) (b' h o q : TRef sig Wide)
  | inject (k : TRef sig Lone) (b p : TRef sig Wide) (k' : TRef sig Lone) (b' q' : TRef sig Wide) (c : TRef sig Lone) (n : BitVec 32) (b'' q : TRef sig Wide)

namespace Step

/-- The step's operations, from the buffers of the two words before it. -/
def ops (P Q : TRef sig Wide) : Step → List (HloOp τ sig (Elt F))
  | .round y c r b l c' s b' h o q =>
    [TRef.binary P Q y addi, TRef.nullary c (constantI S_ 32 r), TRef.unary c b (broadcastInDim S128x100000 ![] bcast_S_S128x100000),
      TRef.binary Q b l Host.shli, TRef.nullary c' (constantI S_ 32 s), TRef.unary c' b' (broadcastInDim S128x100000 ![] bcast_S_S128x100000),
      TRef.binary Q b' h Host.shrui, TRef.binary l h o ori, TRef.binary y o q xori]
  | .inject k b p k' b' q' c n b'' q =>
    [TRef.unary k b (broadcastInDim S128x100000 ![] bcast_S_S128x100000), TRef.binary P b p addi,
      TRef.unary k' b' (broadcastInDim S128x100000 ![] bcast_S_S128x100000), TRef.binary Q b' q' addi,
      TRef.nullary c (constantI S_ 32 n), TRef.unary c b'' (broadcastInDim S128x100000 ![] bcast_S_S128x100000), TRef.binary q' b'' q addi]

/-- The buffer of the first word after the step. -/
def fst : Step → TRef sig Wide
  | .round y _ _ _ _ _ _ _ _ _ _ => y
  | .inject _ _ p _ _ _ _ _ _ _ => p

/-- The buffer of the second word after the step. -/
def snd : Step → TRef sig Wide
  | .round _ _ _ _ _ _ _ _ _ _ q => q
  | .inject _ _ _ _ _ _ _ _ _ q => q

/-- The buffers the step writes. -/
def writes : Step → List (Ref sig .tc)
  | .round y c _ b l c' _ b' h o q => [y.ref, c.ref, b.ref, l.ref, c'.ref, b'.ref, h.ref, o.ref, q.ref]
  | .inject _ b p _ b' q' c _ b'' q => [b.ref, p.ref, b'.ref, q'.ref, c.ref, b''.ref, q.ref]

/-- The key buffers the step reads. -/
def keys : Step → List (Ref sig .tc)
  | .round _ _ _ _ _ _ _ _ _ _ _ => []
  | .inject k _ _ k' _ _ _ _ _ _ => [k.ref, k'.ref]

/-- The first word after the step, at words `p`, `q` and key words `e`. -/
def fstVal (e : TRef sig Lone → IVec S_ 32) (p q : IVec S128x100000 32) : Step → IVec S128x100000 32
  | .round _ _ _ _ _ _ _ _ _ _ _ => addi p q
  | .inject k _ _ _ _ _ _ _ _ _ => addi p (broadcastInDim S128x100000 ![] bcast_S_S128x100000 (e k))

/-- The second word after the step, at words `p`, `q` and key words `e`. -/
def sndVal (e : TRef sig Lone → IVec S_ 32) (p q : IVec S128x100000 32) : Step → IVec S128x100000 32
  | .round _ _ r _ _ _ s _ _ _ _ => xori (addi p q) (ori (Host.shli q (broadcastInDim S128x100000 ![] bcast_S_S128x100000 (constantI S_ 32 r)))
      (Host.shrui q (broadcastInDim S128x100000 ![] bcast_S_S128x100000 (constantI S_ 32 s))))
  | .inject _ _ _ k' _ _ _ n _ _ => addi (addi q (broadcastInDim S128x100000 ![] bcast_S_S128x100000 (e k')))
      (broadcastInDim S128x100000 ![] bcast_S_S128x100000 (constantI S_ 32 n))

/-- The step's buffers are told apart: it writes each once, and neither word before it, nor any buffer of `keep`, which holds its keys. -/
def ok (keep : List (Ref sig .tc)) (P Q : TRef sig Wide) (s : Step) : Bool :=
  decide ((P.ref :: Q.ref :: s.writes).Nodup) && decide (∀ r ∈ keep, r ∉ s.writes) && decide (∀ k ∈ s.keys, k ∈ keep)

/-- The step's operations write its buffers only. -/
theorem ops_writes (P Q : TRef sig Wide) (s : Step) :
    (s.ops (F := F) P Q).Forall fun op => op.writes ⊆ (s.writes.map (Proc.devRef (τ := τ) .tc)).toFinset := by
  apply forall_writes_sub_of_map
  cases s <;> rfl

/-- A buffer the step does not write keeps its contents. -/
theorem after_keep (P Q : TRef sig Wide) (s : Step) (V : Valuation τ sig (Elt F)) (r : Ref sig .tc) (h : r ∉ s.writes) :
    after (s.ops P Q) V (Proc.devRef .tc r) = V (Proc.devRef .tc r) :=
  after_of_writes_sub _ V (s.ops_writes P Q) h

/-- The words after the step's operations. -/
theorem after_vals (P Q : TRef sig Wide) (s : Step) (V : Valuation τ sig (Elt F)) (e : TRef sig Lone → IVec S_ 32) (keep : List (Ref sig .tc))
    (hs : s.ok keep P Q = true) (he : ∀ k : TRef sig Lone, k.ref ∈ keep → rd V k = e k) :
    rd (after (s.ops P Q) V) s.fst = s.fstVal e (rd V P) (rd V Q) ∧ rd (after (s.ops P Q) V) s.snd = s.sndVal e (rd V P) (rd V Q) := by
  simp only [ok, Bool.and_eq_true, decide_eq_true_eq] at hs
  obtain ⟨⟨hn, hk⟩, hm⟩ := hs
  cases s with
  | round y c r b l c' s b' h o q =>
    simp only [writes, List.nodup_cons, List.mem_cons, List.not_mem_nil, or_false, not_or] at hn
    simp only [ops, fst, snd, fstVal, sndVal, after_cons, after_nil]
    obtain ⟨⟨n01, n02, n03, n04, n05, n06, n07, n08, n09, n0a⟩, ⟨n12, n13, n14, n15, n16, n17, n18, n19, n1a⟩, ⟨n23, n24, n25, n26, n27, n28, n29, n2a⟩,
      ⟨n34, n35, n36, n37, n38, n39, n3a⟩, ⟨n45, n46, n47, n48, n49, n4a⟩, ⟨n56, n57, n58, n59, n5a⟩, ⟨n67, n68, n69, n6a⟩, ⟨n78, n79, n7a⟩,
      ⟨n89, n8a⟩, n9a, _, _⟩ := hn
    constructor <;>
      simp only [rd_nullary, rd_unary, rd_binary, rd_nullary_ne, rd_unary_ne, rd_binary_ne, *, ne_eq, not_false_eq_true]
  | inject k b p k' b' q' c n b'' q =>
    simp only [writes, List.nodup_cons, List.mem_cons, List.not_mem_nil, or_false, not_or] at hn
    simp only [keys, List.forall_mem_cons] at hm
    have e1 := he k hm.1
    have e2 := he k' hm.2.1
    have k1 := hk _ hm.1
    have k2 := hk _ hm.2.1
    simp only [writes, List.mem_cons, List.not_mem_nil, or_false, not_or] at k1 k2
    simp only [ops, fst, snd, fstVal, sndVal, after_cons, after_nil]
    obtain ⟨⟨n01, n02, n03, n04, n05, n06, n07, n08⟩, ⟨n12, n13, n14, n15, n16, n17, n18⟩, ⟨n23, n24, n25, n26, n27, n28⟩,
      ⟨n34, n35, n36, n37, n38⟩, ⟨n45, n46, n47, n48⟩, ⟨n56, n57, n58⟩, ⟨n67, n68⟩, n78, _⟩ := hn
    obtain ⟨k11, k12, k13, k14, k15, k16, k17⟩ := k1
    obtain ⟨k21, k22, k23, k24, k25, k26, k27⟩ := k2
    constructor <;>
      simp only [rd_nullary, rd_unary, rd_binary, rd_nullary_ne, rd_unary_ne, rd_binary_ne, *, ne_eq, not_false_eq_true]

end Step

/-- The operations of a run of steps. -/
def stepsOps : List Step → TRef sig Wide → TRef sig Wide → List (HloOp τ sig (Elt F))
  | [], _, _ => []
  | s :: l, P, Q => s.ops P Q ++ stepsOps l s.fst s.snd

/-- The buffer of the first word after a run of steps. -/
def lastFst : List Step → TRef sig Wide → TRef sig Wide
  | [], P => P
  | s :: l, _ => lastFst l s.fst

/-- The buffer of the second word after a run of steps. -/
def lastSnd : List Step → TRef sig Wide → TRef sig Wide
  | [], Q => Q
  | s :: l, _ => lastSnd l s.snd

/-- The first word after a run of steps. -/
def mixFst (e : TRef sig Lone → IVec S_ 32) : List Step → IVec S128x100000 32 → IVec S128x100000 32 → IVec S128x100000 32
  | [], p, _ => p
  | s :: l, p, q => mixFst e l (s.fstVal e p q) (s.sndVal e p q)

/-- The second word after a run of steps. -/
def mixSnd (e : TRef sig Lone → IVec S_ 32) : List Step → IVec S128x100000 32 → IVec S128x100000 32 → IVec S128x100000 32
  | [], _, q => q
  | s :: l, p, q => mixSnd e l (s.fstVal e p q) (s.sndVal e p q)

/-- Every step's buffers are told apart. -/
def stepsOk (keep : List (Ref sig .tc)) : List Step → TRef sig Wide → TRef sig Wide → Bool
  | [], _, _ => true
  | s :: l, P, Q => s.ok keep P Q && stepsOk keep l s.fst s.snd

/-- Two lines of operations run one after the other. -/
theorem after_two (l l' : List (HloOp τ sig (Elt F))) (V : Valuation τ sig (Elt F)) : after (l ++ l') V = after l' (after l V) := by
  induction l generalizing V with
  | nil => rfl
  | cons op l ih => rw [List.cons_append, after_cons, after_cons, ih]

/-- A kept buffer keeps its contents over a run of steps. -/
theorem steps_keep (keep : List (Ref sig .tc)) (r : Ref sig .tc) (hr : r ∈ keep) :
    ∀ (l : List Step) (P Q : TRef sig Wide) (V : Valuation τ sig (Elt F)), stepsOk keep l P Q = true →
      after (stepsOps l P Q) V (Proc.devRef .tc r) = V (Proc.devRef .tc r)
  | [], _, _, _, _ => rfl
  | s :: l, P, Q, V, h => by
    simp only [stepsOk, Bool.and_eq_true] at h
    have h1 := h.1
    simp only [Step.ok, Bool.and_eq_true, decide_eq_true_eq] at h1
    rw [stepsOps, after_two, steps_keep keep r hr l _ _ _ h.2, s.after_keep P Q V r (h1.1.2 r hr)]

/-- The words after a run of steps. -/
theorem steps_vals (keep : List (Ref sig .tc)) (e : TRef sig Lone → IVec S_ 32) :
    ∀ (l : List Step) (P Q : TRef sig Wide) (V : Valuation τ sig (Elt F)), stepsOk keep l P Q = true →
      (∀ k : TRef sig Lone, k.ref ∈ keep → rd V k = e k) →
      rd (after (stepsOps l P Q) V) (lastFst l P) = mixFst e l (rd V P) (rd V Q)
        ∧ rd (after (stepsOps l P Q) V) (lastSnd l Q) = mixSnd e l (rd V P) (rd V Q)
  | [], _, _, _, _, _ => ⟨rfl, rfl⟩
  | s :: l, P, Q, V, h, he => by
    simp only [stepsOk, Bool.and_eq_true] at h
    have h1 := h.1
    simp only [Step.ok, Bool.and_eq_true, decide_eq_true_eq] at h1
    have hv := s.after_vals P Q V e keep h.1 he
    have ih := steps_vals keep e l s.fst s.snd (after (s.ops P Q) V) h.2 fun k hk => by
      rw [rd, s.after_keep P Q V k.ref (h1.1.2 _ hk)]; exact he k hk
    rw [hv.1, hv.2] at ih
    rw [stepsOps, after_two]
    exact ih

/-- Every operation of a run of steps touches tensor buffers only. -/
theorem steps_sub : ∀ (l : List Step) (P Q : TRef sig Wide), (stepsOps (F := F) l P Q).Forall fun op => op.bufs ⊆ tcRefs τ sig
  | [], _, _ => trivial
  | s :: l, P, Q => by
    rw [stepsOps, List.forall_append]
    refine ⟨?_, steps_sub l _ _⟩
    cases s <;> simp [Step.ops]

/-- No operation of a run of steps leaves its result open. -/
theorem steps_fresh : ∀ (l : List Step) (P Q : TRef sig Wide), ∀ op ∈ stepsOps (F := F) l P Q, op.fresh = ∅
  | [], _, _, _, h => nomatch h
  | s :: l, P, Q, op, h => by
    rw [stepsOps, List.mem_append] at h
    rcases h with h | h
    · refine List.forall_iff_forall_mem.mp (forall_fresh_of_map ?_) op h
      cases s <;> rfl
    · exact steps_fresh l _ _ op h

end Cert.ReferenceIdeal
-- ==== Proof.RefRun.lean ====
module

public import proofs.«01_k».proof.Proof.RefSteps
public import Idealize.ShloMosaic.Lib.Quiescent

@[expose] public section

noncomputable section

namespace Cert.ReferenceIdeal

open Idealize.ShloMosaic Idealize.ShloMosaic.TcCoe Idealize.ShloMosaic.StableHlo Idealize.SL.Sem
open Facts₀ Facts
variable {F : FTy → Type} [FloatOps F] [Facts]

/-- The operations that make the two key words' one-element arrays. -/
def opsSeed : List (HloOp τ sig (Elt F)) :=
    [nullary main_c (constantI S_ 32 42#32),
     nullary main_c_0 (constantI S_ 32 32#32),
     binary main_c main_c_0 main_v0 (Host.shrui : (⟨S_, .i32⟩ : BufTy).Contents (Elt F) → (⟨S_, .i32⟩ : BufTy).Contents (Elt F) → (⟨S_, .i32⟩ : BufTy).Contents (Elt F)),
     unary main_v0 main_v1 (id : (⟨S_, .i32⟩ : BufTy).Contents (Elt F) → (⟨S_, .i32⟩ : BufTy).Contents (Elt F)),
     unary main_v1 main_v2 (broadcastInDim S1 ![] bcast_S_S1 : (⟨S_, .i32⟩ : BufTy).Contents (Elt F) → (⟨S1, .i32⟩ : BufTy).Contents (Elt F)),
     nullary main_c_1 (constantI S_ 32 4294967295#32),
     binary main_c main_c_1 main_v3 (andi : (⟨S_, .i32⟩ : BufTy).Contents (Elt F) → (⟨S_, .i32⟩ : BufTy).Contents (Elt F) → (⟨S_, .i32⟩ : BufTy).Contents (Elt F)),
     unary main_v3 main_v4 (id : (⟨S_, .i32⟩ : BufTy).Contents (Elt F) → (⟨S_, .i32⟩ : BufTy).Contents (Elt F)),
     unary main_v4 main_v5 (broadcastInDim S1 ![] bcast_S_S1 : (⟨S_, .i32⟩ : BufTy).Contents (Elt F) → (⟨S1, .i32⟩ : BufTy).Contents (Elt F))]

/-- The operations that join the key words and take them apart. -/
def opsSplit : List (HloOp τ sig (Elt F)) :=
    [binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
     unary main_v6 main_v7 ((extractStridedSlice S1 ![0] · slices_S2_S1_0) : (⟨S2, .i32⟩ : BufTy).Contents (Elt F) → (⟨S1, .i32⟩ : BufTy).Contents (Elt F)),
     reshape main_v7 main_v8 (rfl : (.i32 : EltTy) = .i32) shapeCasts_S1_S_,
     unary main_v6 main_v9 ((extractStridedSlice S1 ![1] · slices_S2_S1_1) : (⟨S2, .i32⟩ : BufTy).Contents (Elt F) → (⟨S1, .i32⟩ : BufTy).Contents (Elt F)),
     reshape main_v9 main_v10 (rfl : (.i32 : EltTy) = .i32) shapeCasts_S1_S_]

/-- The operations that count the entries and add the key words. -/
def opsCount : List (HloOp τ sig (Elt F)) :=
    [nullary main_v11 (iotaInDim S128x100000 64 0),
     nullary main_v12 (iotaInDim S128x100000 64 1),
     nullary main_c_2 (constantI S_ 64 100000#64),
     unary main_c_2 main_v13 (broadcastInDim S128x100000 ![] bcast_S_S128x100000 : (⟨S_, .i64⟩ : BufTy).Contents (Elt F) → (⟨S128x100000, .i64⟩ : BufTy).Contents (Elt F)),
     binary main_v13 main_v11 main_v14 (muli : (⟨S128x100000, .i64⟩ : BufTy).Contents (Elt F) → (⟨S128x100000, .i64⟩ : BufTy).Contents (Elt F) → (⟨S128x100000, .i64⟩ : BufTy).Contents (Elt F)),
     nullary main_c_3 (constantI S_ 64 1#64),
     unary main_c_3 main_v15 (broadcastInDim S128x100000 ![] bcast_S_S128x100000 : (⟨S_, .i64⟩ : BufTy).Contents (Elt F) → (⟨S128x100000, .i64⟩ : BufTy).Contents (Elt F)),
     binary main_v15 main_v12 main_v16 (muli : (⟨S128x100000, .i64⟩ : BufTy).Contents (Elt F) → (⟨S128x100000, .i64⟩ : BufTy).Contents (Elt F) → (⟨S128x100000, .i64⟩ : BufTy).Contents (Elt F)),
     binary main_v14 main_v16 main_v17 (addi : (⟨S128x100000, .i64⟩ : BufTy).Contents (Elt F) → (⟨S128x100000, .i64⟩ : BufTy).Contents (Elt F) → (⟨S128x100000, .i64⟩ : BufTy).Contents (Elt F)),
     nullary main_c_4 (constantI S_ 64 32#64),
     unary main_c_4 main_v18 (broadcastInDim S128x100000 ![] bcast_S_S128x100000 : (⟨S_, .i64⟩ : BufTy).Contents (Elt F) → (⟨S128x100000, .i64⟩ : BufTy).Contents (Elt F)),
     binary main_v17 main_v18 main_v19 (Host.shrui : (⟨S128x100000, .i64⟩ : BufTy).Contents (Elt F) → (⟨S128x100000, .i64⟩ : BufTy).Contents (Elt F) → (⟨S128x100000, .i64⟩ : BufTy).Contents (Elt F)),
     unary main_v17 main_v20 ((trunci 32 · natLt_32_64) : (⟨S128x100000, .i64⟩ : BufTy).Contents (Elt F) → (⟨S128x100000, .i32⟩ : BufTy).Contents (Elt F)),
     unary main_v19 main_v21 ((trunci 32 · natLt_32_64) : (⟨S128x100000, .i64⟩ : BufTy).Contents (Elt F) → (⟨S128x100000, .i32⟩ : BufTy).Contents (Elt F)),
     TRef.binary (.of main_v8) (.of main_v10) main_call0.v0 xori,
     TRef.nullary main_call0.c (constantI S_ 32 466688986#32),
     TRef.binary main_call0.v0 main_call0.c main_call0.v1 xori,
     TRef.unary (.of main_v8 : TRef sig Lone) main_call0.v2 (broadcastInDim S128x100000 ![] bcast_S_S128x100000),
     TRef.binary (.of main_v21) main_call0.v2 main_call0.v3 addi,
     TRef.unary (.of main_v10 : TRef sig Lone) main_call0.v4 (broadcastInDim S128x100000 ![] bcast_S_S128x100000),
     TRef.binary (.of main_v20) main_call0.v4 main_call0.v5 addi]

/-- The generator's steps over their buffers. -/
def steps : List Step :=
    [.round main_call0.v6 main_call0.c_0 13#32 main_call0.v7 main_call0.v8 main_call0.c_1 19#32 main_call0.v9 main_call0.v10 main_call0.v11 main_call0.v12,
     .round main_call0.v13 main_call0.c_2 15#32 main_call0.v14 main_call0.v15 main_call0.c_3 17#32 main_call0.v16 main_call0.v17 main_call0.v18 main_call0.v19,
     .round main_call0.v20 main_call0.c_4 26#32 main_call0.v21 main_call0.v22 main_call0.c_5 6#32 main_call0.v23 main_call0.v24 main_call0.v25 main_call0.v26,
     .round main_call0.v27 main_call0.c_6 6#32 main_call0.v28 main_call0.v29 main_call0.c_7 26#32 main_call0.v30 main_call0.v31 main_call0.v32 main_call0.v33,
     .inject (.of main_v10) main_call0.v34 main_call0.v35 main_call0.v1 main_call0.v36 main_call0.v37 main_call0.c_8 1#32 main_call0.v38 main_call0.v39,
     .round main_call0.v40 main_call0.c_9 17#32 main_call0.v41 main_call0.v42 main_call0.c_10 15#32 main_call0.v43 main_call0.v44 main_call0.v45 main_call0.v46,
     .round main_call0.v47 main_call0.c_11 29#32 main_call0.v48 main_call0.v49 main_call0.c_12 3#32 main_call0.v50 main_call0.v51 main_call0.v52 main_call0.v53,
     .round main_call0.v54 main_call0.c_13 16#32 main_call0.v55 main_call0.v56 main_call0.c_14 16#32 main_call0.v57 main_call0.v58 main_call0.v59 main_call0.v60,
     .round main_call0.v61 main_call0.c_15 24#32 main_call0.v62 main_call0.v63 main_call0.c_16 8#32 main_call0.v64 main_call0.v65 main_call0.v66 main_call0.v67,
     .inject main_call0.v1 main_call0.v68 main_call0.v69 (.of main_v8) main_call0.v70 main_call0.v71 main_call0.c_17 2#32 main_call0.v72 main_call0.v73,
     .round main_call0.v74 main_call0.c_18 13#32 main_call0.v75 main_call0.v76 main_call0.c_19 19#32 main_call0.v77 main_call0.v78 main_call0.v79 main_call0.v80,
     .round main_call0.v81 main_call0.c_20 15#32 main_call0.v82 main_call0.v83 main_call0.c_21 17#32 main_call0.v84 main_call0.v85 main_call0.v86 main_call0.v87,
     .round main_call0.v88 main_call0.c_22 26#32 main_call0.v89 main_call0.v90 main_call0.c_23 6#32 main_call0.v91 main_call0.v92 main_call0.v93 main_call0.v94,
     .round main_call0.v95 main_call0.c_24 6#32 main_call0.v96 main_call0.v97 main_call0.c_25 26#32 main_call0.v98 main_call0.v99 main_call0.v100 main_call0.v101,
     .inject (.of main_v8) main_call0.v102 main_call0.v103 (.of main_v10) main_call0.v104 main_call0.v105 main_call0.c_26 3#32 main_call0.v106 main_call0.v107,
     .round main_call0.v108 main_call0.c_27 17#32 main_call0.v109 main_call0.v110 main_call0.c_28 15#32 main_call0.v111 main_call0.v112 main_call0.v113 main_call0.v114,
     .round main_call0.v115 main_call0.c_29 29#32 main_call0.v116 main_call0.v117 main_call0.c_30 3#32 main_call0.v118 main_call0.v119 main_call0.v120 main_call0.v121,
     .round main_call0.v122 main_call0.c_31 16#32 main_call0.v123 main_call0.v124 main_call0.c_32 16#32 main_call0.v125 main_call0.v126 main_call0.v127 main_call0.v128,
     .round main_call0.v129 main_call0.c_33 24#32 main_call0.v130 main_call0.v131 main_call0.c_34 8#32 main_call0.v132 main_call0.v133 main_call0.v134 main_call0.v135,
     .inject (.of main_v10) main_call0.v136 main_call0.v137 main_call0.v1 main_call0.v138 main_call0.v139 main_call0.c_35 4#32 main_call0.v140 main_call0.v141,
     .round main_call0.v142 main_call0.c_36 13#32 main_call0.v143 main_call0.v144 main_call0.c_37 19#32 main_call0.v145 main_call0.v146 main_call0.v147 main_call0.v148,
     .round main_call0.v149 main_call0.c_38 15#32 main_call0.v150 main_call0.v151 main_call0.c_39 17#32 main_call0.v152 main_call0.v153 main_call0.v154 main_call0.v155,
     .round main_call0.v156 main_call0.c_40 26#32 main_call0.v157 main_call0.v158 main_call0.c_41 6#32 main_call0.v159 main_call0.v160 main_call0.v161 main_call0.v162,
     .round main_call0.v163 main_call0.c_42 6#32 main_call0.v164 main_call0.v165 main_call0.c_43 26#32 main_call0.v166 main_call0.v167 main_call0.v168 main_call0.v169,
     .inject main_call0.v1 main_call0.v170 main_call0.v171 (.of main_v8) main_call0.v172 main_call0.v173 main_call0.c_44 5#32 main_call0.v174 main_call0.v175]

/-- The operations after the generator's steps, up to the perturbed logits. -/
def opsGumbel : List (HloOp τ sig (Elt F)) :=
    [binary main_v22_0 main_v22_1 main_v23 (xori : (⟨S128x100000, .i32⟩ : BufTy).Contents (Elt F) → (⟨S128x100000, .i32⟩ : BufTy).Contents (Elt F) → (⟨S128x100000, .i32⟩ : BufTy).Contents (Elt F)),
     nullary main_c_5 (constantI S_ 32 9#32),
     unary main_c_5 main_v24 (broadcastInDim S128x100000 ![] bcast_S_S128x100000 : (⟨S_, .i32⟩ : BufTy).Contents (Elt F) → (⟨S128x100000, .i32⟩ : BufTy).Contents (Elt F)),
     binary main_v23 main_v24 main_v25 (Host.shrui : (⟨S128x100000, .i32⟩ : BufTy).Contents (Elt F) → (⟨S128x100000, .i32⟩ : BufTy).Contents (Elt F) → (⟨S128x100000, .i32⟩ : BufTy).Contents (Elt F)),
     nullary main_c_6 (constantI S_ 32 1065353216#32),
     unary main_c_6 main_v26 (broadcastInDim S128x100000 ![] bcast_S_S128x100000 : (⟨S_, .i32⟩ : BufTy).Contents (Elt F) → (⟨S128x100000, .i32⟩ : BufTy).Contents (Elt F)),
     binary main_v25 main_v26 main_v27 (ori : (⟨S128x100000, .i32⟩ : BufTy).Contents (Elt F) → (⟨S128x100000, .i32⟩ : BufTy).Contents (Elt F) → (⟨S128x100000, .i32⟩ : BufTy).Contents (Elt F)),
     unary main_v27 main_v28 (bitcastToFloat .f32 : (⟨S128x100000, .i32⟩ : BufTy).Contents (Elt F) → (⟨S128x100000, .f32⟩ : BufTy).Contents (Elt F)),
     nullary main_cst (constant S_ .f32 0x3F800000#32),
     unary main_cst main_v29 (broadcastInDim S128x100000 ![] bcast_S_S128x100000 : (⟨S_, .f32⟩ : BufTy).Contents (Elt F) → (⟨S128x100000, .f32⟩ : BufTy).Contents (Elt F)),
     binary main_v28 main_v29 main_v30 (subf : (⟨S128x100000, .f32⟩ : BufTy).Contents (Elt F) → (⟨S128x100000, .f32⟩ : BufTy).Contents (Elt F) → (⟨S128x100000, .f32⟩ : BufTy).Contents (Elt F)),
     nullary main_cst_7 (constant S_ .f32 0x3F800000#32),
     unary main_cst_7 main_v31 (broadcastInDim S128x100000 ![] bcast_S_S128x100000 : (⟨S_, .f32⟩ : BufTy).Contents (Elt F) → (⟨S128x100000, .f32⟩ : BufTy).Contents (Elt F)),
     binary main_v30 main_v31 main_v32 (mulf : (⟨S128x100000, .f32⟩ : BufTy).Contents (Elt F) → (⟨S128x100000, .f32⟩ : BufTy).Contents (Elt F) → (⟨S128x100000, .f32⟩ : BufTy).Contents (Elt F)),
     nullary main_cst_8 (constant S_ .f32 0x00800000#32),
     unary main_cst_8 main_v33 (broadcastInDim S128x100000 ![] bcast_S_S128x100000 : (⟨S_, .f32⟩ : BufTy).Contents (Elt F) → (⟨S128x100000, .f32⟩ : BufTy).Contents (Elt F)),
     binary main_v32 main_v33 main_v34 (addf : (⟨S128x100000, .f32⟩ : BufTy).Contents (Elt F) → (⟨S128x100000, .f32⟩ : BufTy).Contents (Elt F) → (⟨S128x100000, .f32⟩ : BufTy).Contents (Elt F)),
     nullary main_cst_9 (constant S_ .f32 0x00800000#32),
     unary main_cst_9 main_v35 (broadcastInDim S128x100000 ![] bcast_S_S128x100000 : (⟨S_, .f32⟩ : BufTy).Contents (Elt F) → (⟨S128x100000, .f32⟩ : BufTy).Contents (Elt F)),
     binary main_v35 main_v34 main_v36 (maximumf : (⟨S128x100000, .f32⟩ : BufTy).Contents (Elt F) → (⟨S128x100000, .f32⟩ : BufTy).Contents (Elt F) → (⟨S128x100000, .f32⟩ : BufTy).Contents (Elt F)),
     unary main_v36 main_v37 (Host.log : (⟨S128x100000, .f32⟩ : BufTy).Contents (Elt F) → (⟨S128x100000, .f32⟩ : BufTy).Contents (Elt F)),
     unary main_v37 main_v38 (Host.negf : (⟨S128x100000, .f32⟩ : BufTy).Contents (Elt F) → (⟨S128x100000, .f32⟩ : BufTy).Contents (Elt F)),
     unary main_v38 main_v39 (Host.log : (⟨S128x100000, .f32⟩ : BufTy).Contents (Elt F) → (⟨S128x100000, .f32⟩ : BufTy).Contents (Elt F)),
     unary main_v39 main_v40 (Host.negf : (⟨S128x100000, .f32⟩ : BufTy).Contents (Elt F) → (⟨S128x100000, .f32⟩ : BufTy).Contents (Elt F)),
     binary main_v40 main_arg0 main_v41 (addf : (⟨S128x100000, .f32⟩ : BufTy).Contents (Elt F) → (⟨S128x100000, .f32⟩ : BufTy).Contents (Elt F) → (⟨S128x100000, .f32⟩ : BufTy).Contents (Elt F))]

/-- The operations that take the place of each row's largest value. -/
def opsArgmax : List (HloOp τ sig (Elt F)) :=
    [TRef.nullary main_call1.v0 (iotaInDim S128x100000 32 1),
     TRef.nullary main_call1.cst (constant S_ .f32 0xFF800000#32),
     TRef.nullary main_call1.c (constantI S_ 32 0#32),
     TRef.quaternary (.of main_v41) main_call1.v0 main_call1.cst main_call1.c main_call1.v1_0 (fun x y u v j => (Host.argReduce reducer_argmax_f32_i32 x y u v reducesTo_S128x100000_S128_d1 h_S_ j).1),
     TRef.quaternary (.of main_v41) main_call1.v0 main_call1.cst main_call1.c main_call1.v1_1 (fun x y u v j => (Host.argReduce reducer_argmax_f32_i32 x y u v reducesTo_S128x100000_S128_d1 h_S_ j).2)]

/-- All the operations. -/
def opsAll : List (HloOp τ sig (Elt F)) :=
  opsSeed ++ (opsSplit ++ (opsCount ++ (stepsOps steps main_call0.v3 main_call0.v5 ++ (opsGumbel ++ opsArgmax))))

set_option maxRecDepth 10000000 in
set_option maxHeartbeats 0 in
/-- The reference is the line of its operations. -/
theorem main_eq (c : Dev nD) : main (F := F) c = seq opsAll := (rfl)

end Cert.ReferenceIdeal
-- ==== Proof.RefRead.lean ====
module

public import proofs.«01_k».proof.Proof.RefRun
public import proofs.«01_k».proof.Proof.Gen.ReferenceIdeal

@[expose] public section

noncomputable section

namespace Cert.ReferenceIdeal

open Idealize.ShloMosaic Idealize.ShloMosaic.TcCoe Idealize.ShloMosaic.StableHlo Idealize.SL.Sem
open Facts₀ Facts
variable {F : FTy → Type} [FloatOps F] [Facts]

/-- Entry `(b, v)`'s linear index, a word of 64 bits. -/
def lin : IVec S128x100000 64 :=
  addi (muli (broadcastInDim S128x100000 ![] bcast_S_S128x100000 (constantI S_ 64 100000#64)) (iotaInDim S128x100000 64 0))
    (muli (broadcastInDim S128x100000 ![] bcast_S_S128x100000 (constantI S_ 64 1#64)) (iotaInDim S128x100000 64 1))

/-- The counters' upper words. -/
def hiWord : IVec S128x100000 32 :=
  trunci 32 (Host.shrui lin (broadcastInDim S128x100000 ![] bcast_S_S128x100000 (constantI S_ 64 32#64))) natLt_32_64

/-- The counters' lower words. -/
def loWord : IVec S128x100000 32 := trunci 32 lin natLt_32_64

/-- A word spread over the tensor. -/
def spread (x : IVec S_ 32) : IVec S128x100000 32 := broadcastInDim S128x100000 ![] bcast_S_S128x100000 x

/-- A float constant spread over the tensor. -/
def spreadF (w : BitVec 32) : FVec F S128x100000 .f32 := broadcastInDim S128x100000 ![] bcast_S_S128x100000 (constant S_ .f32 w)

/-- The uniform numbers of the generator's two words. -/
def uniform (x0 x1 : IVec S128x100000 32) : FVec F S128x100000 .f32 :=
  maximumf (spreadF 0x00800000#32) (addf (mulf (subf (bitcastToFloat .f32 (ori (Host.shrui (xori x0 x1) (spread (constantI S_ 32 9#32)))
    (spread (constantI S_ 32 1065353216#32)))) (spreadF 0x3F800000#32)) (spreadF 0x3F800000#32)) (spreadF 0x00800000#32))

/-- The perturbed logits of the generator's two words. -/
def perturbed (x0 x1 : IVec S128x100000 32) (x : FVec F S128x100000 .f32) : FVec F S128x100000 .f32 :=
  addf (Host.negf (Host.log (Host.negf (Host.log (uniform x0 x1))))) x

/-- The place of each row's largest value. -/
def places (x : FVec F S128x100000 .f32) : IVec S128 32 := fun j =>
  (Host.argReduce reducer_argmax_f32_i32 x (iotaInDim S128x100000 32 1) (constant S_ .f32 0xFF800000#32) (constantI S_ 32 0#32)
    reducesTo_S128x100000_S128_d1 h_S_ j).2

/-- The first key word is zero. -/
theorem seed_v2 (V : Valuation τ sig (Elt F)) : after opsSeed V (main_v2 : DevRef τ sig) = constantI S1 32 0#32 := by
  unfold opsSeed
  after_results_simp
  rfl

/-- The second key word is the seed. -/
theorem seed_v5 (V : Valuation τ sig (Elt F)) : after opsSeed V (main_v5 : DevRef τ sig) = constantI S1 32 42#32 := by
  unfold opsSeed
  after_results_simp
  funext i
  exact (by decide : (42#32 &&& 4294967295#32) = 42#32)

/-- The logits are as before. -/
theorem seed_arg0 (V : Valuation τ sig (Elt F)) : after opsSeed V (main_arg0 : DevRef τ sig) = V (main_arg0 : DevRef τ sig) := by
  unfold opsSeed
  after_results_simp

/-- The first element of the joined pair. -/
theorem pair_0 : ∀ i : S_.Idx, shapeCast S_ (extractStridedSlice S1 ![0] (concatenate S2 0 [⟨S1, constantI S1 32 0#32⟩, ⟨S1, constantI S1 32 42#32⟩]
    Gen.concatenates_S1_S1_S2_d0) Gen.slices_S2_S1_0) Gen.shapeCasts_S1_S_ i = 0#32 := by
  decide

/-- The second element of the joined pair. -/
theorem pair_1 : ∀ i : S_.Idx, shapeCast S_ (extractStridedSlice S1 ![1] (concatenate S2 0 [⟨S1, constantI S1 32 0#32⟩, ⟨S1, constantI S1 32 42#32⟩]
    Gen.concatenates_S1_S1_S2_d0) Gen.slices_S2_S1_1) Gen.shapeCasts_S1_S_ i = 42#32 := by
  decide

/-- The first key word, taken out of the pair. -/
theorem split_v8 (V : Valuation τ sig (Elt F)) (h2 : V (main_v2 : DevRef τ sig) = constantI S1 32 0#32) (h5 : V (main_v5 : DevRef τ sig) = constantI S1 32 42#32) :
    after opsSplit V (main_v8 : DevRef τ sig) = constantI S_ 32 0#32 := by
  unfold opsSplit
  after_results_simp
  rw [h2, h5]
  exact funext pair_0

/-- The second key word, taken out of the pair. -/
theorem split_v10 (V : Valuation τ sig (Elt F)) (h2 : V (main_v2 : DevRef τ sig) = constantI S1 32 0#32) (h5 : V (main_v5 : DevRef τ sig) = constantI S1 32 42#32) :
    after opsSplit V (main_v10 : DevRef τ sig) = constantI S_ 32 42#32 := by
  unfold opsSplit
  after_results_simp
  rw [h2, h5]
  exact funext pair_1

/-- The logits are as before. -/
theorem split_arg0 (V : Valuation τ sig (Elt F)) : after opsSplit V (main_arg0 : DevRef τ sig) = V (main_arg0 : DevRef τ sig) := by
  unfold opsSplit
  after_results_simp

/-- The first key word is as before. -/
theorem count_v8 (V : Valuation τ sig (Elt F)) : after opsCount V (main_v8 : DevRef τ sig) = V (main_v8 : DevRef τ sig) := by
  unfold opsCount
  after_results_simp

/-- The second key word is as before. -/
theorem count_v10 (V : Valuation τ sig (Elt F)) : after opsCount V (main_v10 : DevRef τ sig) = V (main_v10 : DevRef τ sig) := by
  unfold opsCount
  after_results_simp

/-- The third key word. -/
theorem count_v1 (V : Valuation τ sig (Elt F)) (h8 : V (main_v8 : DevRef τ sig) = constantI S_ 32 0#32) (h10 : V (main_v10 : DevRef τ sig) = constantI S_ 32 42#32) :
    after opsCount V (main_call0_v1 : DevRef τ sig) = constantI S_ 32 466689008#32 := by
  unfold opsCount
  after_results_simp
  rw [h8, h10]
  funext i
  exact (by decide : ((0#32 ^^^ 42#32) ^^^ 466688986#32) = 466689008#32)

/-- The first word before the steps. -/
theorem count_v3 (V : Valuation τ sig (Elt F)) (h8 : V (main_v8 : DevRef τ sig) = constantI S_ 32 0#32) :
    after opsCount V (main_call0_v3 : DevRef τ sig) = addi hiWord (spread (constantI S_ 32 0#32)) := by
  unfold opsCount
  after_results_simp
  rw [h8]
  rfl

/-- The second word before the steps. -/
theorem count_v5 (V : Valuation τ sig (Elt F)) (h10 : V (main_v10 : DevRef τ sig) = constantI S_ 32 42#32) :
    after opsCount V (main_call0_v5 : DevRef τ sig) = addi loWord (spread (constantI S_ 32 42#32)) := by
  unfold opsCount
  after_results_simp
  rw [h10]
  rfl

/-- The logits are as before. -/
theorem count_arg0 (V : Valuation τ sig (Elt F)) : after opsCount V (main_arg0 : DevRef τ sig) = V (main_arg0 : DevRef τ sig) := by
  unfold opsCount
  after_results_simp

/-- The perturbed logits. -/
theorem gumbel_v41 (V : Valuation τ sig (Elt F)) : after opsGumbel V (main_v41 : DevRef τ sig)
    = perturbed (V (main_v22_0 : DevRef τ sig)) (V (main_v22_1 : DevRef τ sig)) (V (main_arg0 : DevRef τ sig)) := by
  unfold opsGumbel
  after_results_simp
  rfl

/-- The logits are as before. -/
theorem gumbel_arg0 (V : Valuation τ sig (Elt F)) : after opsGumbel V (main_arg0 : DevRef τ sig) = V (main_arg0 : DevRef τ sig) := by
  unfold opsGumbel
  after_results_simp

/-- The result: the place of each row's largest value. -/
theorem argmax_v42 (V : Valuation τ sig (Elt F)) : after opsArgmax V (main_v42 : DevRef τ sig) = places (V (main_v41 : DevRef τ sig)) := by
  unfold opsArgmax
  after_results_simp
  rfl

/-- The logits are as before. -/
theorem argmax_arg0 (V : Valuation τ sig (Elt F)) : after opsArgmax V (main_arg0 : DevRef τ sig) = V (main_arg0 : DevRef τ sig) := by
  unfold opsArgmax
  after_results_simp

/-- The buffers that the steps keep: the logits and the key words. -/
def kept : List (Ref sig .tc) := [main_arg0, main_v8, main_v10, main_call0_v1]

set_option maxRecDepth 100000 in
/-- Every step's buffers are told apart. -/
theorem steps_ok : stepsOk kept steps main_call0.v3 main_call0.v5 = true := by
  decide +kernel

end Cert.ReferenceIdeal
-- ==== Proof.RefValue.lean ====
module

public import proofs.«01_k».proof.Proof.RefRead

@[expose] public section

noncomputable section

namespace Cert.ReferenceIdeal

open Idealize.ShloMosaic Idealize.ShloMosaic.TcCoe Idealize.ShloMosaic.StableHlo Idealize.SL.Sem
open Facts₀ Facts
variable {F : FTy → Type} [FloatOps F] [Facts]

/-- The key word in a buffer. -/
def keyWord (k : TRef sig Lone) : BitVec 32 := if k.ref = main_v8 then 0#32 else if k.ref = main_v10 then 42#32 else 466689008#32

/-- The key word in a buffer, as an array. -/
def key (k : TRef sig Lone) : IVec S_ 32 := constantI S_ 32 (keyWord k)

/-- The generator's first words. -/
def drawn0 : IVec S128x100000 32 := mixFst key steps (addi hiWord (spread (constantI S_ 32 0#32))) (addi loWord (spread (constantI S_ 32 42#32)))

/-- The generator's second words. -/
def drawn1 : IVec S128x100000 32 := mixSnd key steps (addi hiWord (spread (constantI S_ 32 0#32))) (addi loWord (spread (constantI S_ 32 42#32)))

/-- What the reference computes of the logits. -/
def result (x : FVec F S128x100000 .f32) : IVec S128 32 := places (perturbed drawn0 drawn1 x)

/-- The key buffers hold the key words once these are there. -/
theorem rd_key (V : Valuation τ sig (Elt F)) (h8 : V (main_v8 : DevRef τ sig) = constantI S_ 32 0#32) (h10 : V (main_v10 : DevRef τ sig) = constantI S_ 32 42#32)
    (h1 : V (main_call0_v1 : DevRef τ sig) = constantI S_ 32 466689008#32) (k : TRef sig Lone) (hk : k.ref ∈ kept) : rd V k = key k := by
  obtain ⟨r, ht, hd, hu⟩ := k
  simp only [kept, List.mem_cons, List.not_mem_nil, or_false] at hk
  rcases hk with rfl | rfl | rfl | rfl
  · exact absurd (congrArg BufTy.elt ht) (by decide)
  · exact h8
  · exact h10
  · exact h1

/-- After all the operations the logits are as before and the result is the reference's. -/
theorem after_all (V : Valuation τ sig (Elt F)) :
    after opsAll V (main_arg0 : DevRef τ sig) = V (main_arg0 : DevRef τ sig)
      ∧ after opsAll V (main_v42 : DevRef τ sig) = result (V (main_arg0 : DevRef τ sig)) := by
  have a8 := split_v8 (after opsSeed V) (seed_v2 V) (seed_v5 V)
  have a10 := split_v10 (after opsSeed V) (seed_v2 V) (seed_v5 V)
  generalize hB : after opsSplit (after opsSeed V) = B at a8 a10
  have aa : B (main_arg0 : DevRef τ sig) = V (main_arg0 : DevRef τ sig) := by rw [← hB, split_arg0, seed_arg0]
  have b8 := (count_v8 B).trans a8
  have b10 := (count_v10 B).trans a10
  have b1 := count_v1 B a8 a10
  have b3 := count_v3 B a8
  have b5 := count_v5 B a10
  have ba := (count_arg0 B).trans aa
  generalize hC : after opsCount B = C at b8 b10 b1 b3 b5 ba
  have hs := steps_vals kept key steps main_call0.v3 main_call0.v5 C steps_ok (rd_key C b8 b10 b1)
  have hd0 : after (stepsOps steps main_call0.v3 main_call0.v5) C (main_v22_0 : DevRef τ sig) = drawn0 :=
    hs.1.trans (congrArg₂ (mixFst key steps) b3 b5)
  have hd1 : after (stepsOps steps main_call0.v3 main_call0.v5) C (main_v22_1 : DevRef τ sig) = drawn1 :=
    hs.2.trans (congrArg₂ (mixSnd key steps) b3 b5)
  have hda : after (stepsOps steps main_call0.v3 main_call0.v5) C (main_arg0 : DevRef τ sig) = V (main_arg0 : DevRef τ sig) :=
    (steps_keep kept main_arg0 (List.mem_cons_self ..) steps _ _ C steps_ok).trans ba
  rw [opsAll, after_two, after_two, hB, after_two, hC, after_two, after_two]
  exact ⟨by rw [argmax_arg0, gumbel_arg0, hda], by rw [argmax_v42, gumbel_v41, hd0, hd1, hda, result]⟩

/-- Every operation touches tensor buffers only. -/
theorem all_sub : (opsAll (F := F)).Forall fun op => op.bufs ⊆ tcRefs τ sig := by
  simp only [opsAll, List.forall_append]
  refine ⟨?_, ?_, ?_, steps_sub _ _ _, ?_, ?_⟩
  · simp [opsSeed]
  · simp [opsSplit]
  · simp [opsCount]
  · simp [opsGumbel]
  · simp [opsArgmax]

/-- No operation leaves its result open. -/
theorem all_fresh : ∀ op ∈ opsAll (F := F), op.fresh = ∅ := by
  have h : ∀ l : List (HloOp τ sig (Elt F)), l.map HloOp.fresh = l.map (fun _ => (∅ : Finset (DevRef τ sig))) → ∀ op ∈ l, op.fresh = ∅ :=
    fun l hl => List.forall_iff_forall_mem.mp (forall_fresh_of_map hl)
  intro op hop
  simp only [opsAll, List.mem_append] at hop
  rcases hop with hop | hop | hop | hop | hop | hop
  · exact h _ rfl op hop
  · exact h _ rfl op hop
  · exact h _ rfl op hop
  · exact steps_fresh _ _ _ op hop
  · exact h _ rfl op hop
  · exact h _ rfl op hop

/-- The reference runs: its result is the one above, its argument is unchanged and no counter is left. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v42) = result (m ((c.tc : Thread nD τ).loc main_arg0))
        ∧ r.2.mem ((c.tc : Thread nD τ).loc main_arg0) = m ((c.tc : Thread nD τ).loc main_arg0)) ∧ r.2.sem = fun _ => 0 :=
  (θ_run defs (onTc (τ := τ) (main (F := F))) ⟨m, fun _ => 0, ρ⟩).mono
    (fun r h => ⟨fun c => ⟨(h c main_v42).trans (after_all _).2, (h c main_arg0).trans (after_all _).1⟩,
      sem_eq_zero_of_no_sems (by decide) r.2⟩)
    (run_seq (by decide) (by decide) defs main (fun _ => opsAll) main_eq (fun _ => all_sub) m ρ (fun _ => all_fresh))

end Cert.ReferenceIdeal
-- ==== Proof.Words.lean ====
module

public import proofs.«01_k».proof.Proof.Tile
public import proofs.«01_k».proof.Proof.Gen.KernelIdeal
public import proofs.«01_k».proof.Proof.RefValue

@[expose] public section

noncomputable section

namespace Cert

open Idealize.ShloMosaic Idealize.SL.Sem
open Idealize.ShloMosaic.StableHlo (TRef)
open Cert.ReferenceIdeal (S128x100000 S_ Wide Lone Step key keyWord mixFst mixSnd steps hiWord loWord spread drawn0 drawn1 lin)
open Cert.KernelIdeal (S16x128 turn word)

/-- From words that are `P` and `Q` at entry `j`, the steps lead to two words whose xor is `W` there. -/
def Leads (j : S128x100000.Idx) (l : List Step) (P Q W : BitVec 32) : Prop :=
  ∀ p q : IVec S128x100000 32, p j = P → q j = Q → mixFst key l p q j ^^^ mixSnd key l p q j = W

/-- A shift to the left by less than the width is the plain one. -/
theorem shli_small (u : ArithUnit) (x r : BitVec 32) (h : r.toNat < 32) : IntOp.shli u x r = x <<< r := if_pos h

/-- A shift to the right by less than the width is the plain one. -/
theorem shrui_small (u : ArithUnit) (x r : BitVec 32) (h : r.toNat < 32) : IntOp.shrui u x r = x >>> r := if_pos h

/-- The kernel's mixing step at a lane. -/
theorem turn_at (a b : IVec S16x128 32) (r s : BitVec 32) (i : S16x128.Idx) (hr : r.toNat < 32) (hs : s.toNat < 32) :
    turn a b r s i = (b i <<< r ||| b i >>> s) ^^^ a i := by
  show (IntOp.shli .vector (b i) r ||| IntOp.shrui .vector (b i) s) ^^^ a i = _
  rw [shli_small _ _ _ hr, shrui_small _ _ _ hs]

/-- A mixing round leads where the steps after it lead from the mixed words. -/
theorem Leads.round {j : S128x100000.Idx} {l : List Step} {P Q W r s X Y : BitVec 32}
    {y b t b' h o q : TRef ReferenceIdeal.sig Wide} {c c' : TRef ReferenceIdeal.sig Lone}
    (hr : r.toNat < 32) (hs : s.toNat < 32) (hx : P + Q = X) (hy : (Q <<< r ||| Q >>> s) ^^^ X = Y) (hl : Leads j l X Y W) :
    Leads j (.round y c r b t c' s b' h o q :: l) P Q W := by
  intro p q' hp hq
  refine hl _ _ ?_ ?_
  · show p j + q' j = X
    rw [hp, hq, hx]
  · show (p j + q' j) ^^^ (IntOp.shli .host (q' j) r ||| IntOp.shrui .host (q' j) s) = Y
    rw [shli_small _ _ _ hr, shrui_small _ _ _ hs, hp, hq, hx, BitVec.xor_comm, hy]

/-- A key injection leads where the steps after it lead from the words with the key added. -/
theorem Leads.inject {j : S128x100000.Idx} {l : List Step} {P Q W n X Y : BitVec 32}
    {b p b' q' b'' q : TRef ReferenceIdeal.sig Wide} {k k' c : TRef ReferenceIdeal.sig Lone}
    (hx : P + keyWord k = X) (hy : Q + keyWord k' + n = Y) (hl : Leads j l X Y W) :
    Leads j (.inject k b p k' b' q' c n b'' q :: l) P Q W := by
  intro u v hu hv
  refine hl _ _ ?_ ?_
  · show u j + keyWord k = X
    rw [hu, hx]
  · show v j + keyWord k' + n = Y
    rw [hv, hy]

/-- Two words added in turn are their sum added. -/
theorem add_two {x a b s : BitVec 32} (h : a + b = s) : x + a + b = x + s := by rw [BitVec.add_assoc, h]

open KernelIdeal in
/-- From zero and the kernel's counter the reference's steps lead to the kernel's word. -/
theorem steps_lead (j : ReferenceIdeal.S128x100000.Idx) (c : IVec S16x128 32) (i : S16x128.Idx) : Leads j steps 0#32 (c i) (word c i) := by
  unfold steps
  refine Leads.round (X := c i) (Y := y1 c i) (by decide) (by decide) (BitVec.zero_add _) (turn_at _ _ _ _ i (by decide) (by decide)).symm ?_
  refine Leads.round (X := x1 c i) (Y := y2 c i) (by decide) (by decide) (rfl) (turn_at _ _ _ _ i (by decide) (by decide)).symm ?_
  refine Leads.round (X := x2 c i) (Y := y3 c i) (by decide) (by decide) (rfl) (turn_at _ _ _ _ i (by decide) (by decide)).symm ?_
  refine Leads.round (X := x3 c i) (Y := turn (x3 c) (y3 c) 6#32 26#32 i) (by decide) (by decide) (rfl) (turn_at _ _ _ _ i (by decide) (by decide)).symm ?_
  refine Leads.inject (X := x3 c i + 42#32) (Y := y4 c i) (rfl) (add_two (s := 466689009#32) (by decide)) ?_
  refine Leads.round (X := x4 c i) (Y := y5 c i) (by decide) (by decide) (rfl) (turn_at _ _ _ _ i (by decide) (by decide)).symm ?_
  refine Leads.round (X := x5 c i) (Y := y6 c i) (by decide) (by decide) (rfl) (turn_at _ _ _ _ i (by decide) (by decide)).symm ?_
  refine Leads.round (X := x6 c i) (Y := y7 c i) (by decide) (by decide) (rfl) (turn_at _ _ _ _ i (by decide) (by decide)).symm ?_
  refine Leads.round (X := x7 c i) (Y := turn (x7 c) (y7 c) 24#32 8#32 i) (by decide) (by decide) (rfl) (turn_at _ _ _ _ i (by decide) (by decide)).symm ?_
  refine Leads.inject (X := x7 c i + 466689008#32) (Y := y8 c i) (rfl) (add_two (s := 2#32) (by decide)) ?_
  refine Leads.round (X := x8 c i) (Y := y9 c i) (by decide) (by decide) (rfl) (turn_at _ _ _ _ i (by decide) (by decide)).symm ?_
  refine Leads.round (X := x9 c i) (Y := y10 c i) (by decide) (by decide) (rfl) (turn_at _ _ _ _ i (by decide) (by decide)).symm ?_
  refine Leads.round (X := x10 c i) (Y := y11 c i) (by decide) (by decide) (rfl) (turn_at _ _ _ _ i (by decide) (by decide)).symm ?_
  refine Leads.round (X := x11 c i) (Y := turn (x11 c) (y11 c) 6#32 26#32 i) (by decide) (by decide) (rfl) (turn_at _ _ _ _ i (by decide) (by decide)).symm ?_
  refine Leads.inject (X := x11 c i) (Y := y12 c i) (BitVec.add_zero _) (add_two (s := 45#32) (by decide)) ?_
  refine Leads.round (X := x12 c i) (Y := y13 c i) (by decide) (by decide) (rfl) (turn_at _ _ _ _ i (by decide) (by decide)).symm ?_
  refine Leads.round (X := x13 c i) (Y := y14 c i) (by decide) (by decide) (rfl) (turn_at _ _ _ _ i (by decide) (by decide)).symm ?_
  refine Leads.round (X := x14 c i) (Y := y15 c i) (by decide) (by decide) (rfl) (turn_at _ _ _ _ i (by decide) (by decide)).symm ?_
  refine Leads.round (X := x15 c i) (Y := turn (x15 c) (y15 c) 24#32 8#32 i) (by decide) (by decide) (rfl) (turn_at _ _ _ _ i (by decide) (by decide)).symm ?_
  refine Leads.inject (X := x15 c i + 42#32) (Y := y16 c i) (rfl) (add_two (s := 466689012#32) (by decide)) ?_
  refine Leads.round (X := x16 c i) (Y := y17 c i) (by decide) (by decide) (rfl) (turn_at _ _ _ _ i (by decide) (by decide)).symm ?_
  refine Leads.round (X := x17 c i) (Y := y18 c i) (by decide) (by decide) (rfl) (turn_at _ _ _ _ i (by decide) (by decide)).symm ?_
  refine Leads.round (X := x18 c i) (Y := y19 c i) (by decide) (by decide) (rfl) (turn_at _ _ _ _ i (by decide) (by decide)).symm ?_
  refine Leads.round (X := x19 c i) (Y := turn (x19 c) (y19 c) 6#32 26#32 i) (by decide) (by decide) (rfl) (turn_at _ _ _ _ i (by decide) (by decide)).symm ?_
  refine Leads.inject (X := x19 c i + 466689008#32) (Y := turn (x19 c) (y19 c) 6#32 26#32 i + 5#32) (rfl) (add_two (s := 5#32) (by decide)) ?_
  intro p q hp hq
  show p j ^^^ q j = _
  rw [hp, hq]
  rfl

/-- Entry `(l, v)`'s linear index is `l · 100000 + v`. -/
theorem lin_at (j : S128x100000.Idx) : lin j = BitVec.ofNat 64 ((j 0).val * 100000 + (j 1).val) := by
  show 100000#64 * BitVec.ofNat 64 (j 0).val + 1#64 * BitVec.ofNat 64 (j 1).val = _
  rw [BitVec.one_mul, BitVec.ofNat_add, BitVec.ofNat_mul, BitVec.mul_comm]

/-- The linear index is below `12800000`. -/
theorem lin_lt (j : S128x100000.Idx) : (j 0).val * 100000 + (j 1).val < 12800000 := by
  have h0 : (j 0).val < 128 := (j 0).isLt
  have h1 : (j 1).val < 100000 := (j 1).isLt
  omega

/-- The counters' upper words are zero. -/
theorem hiWord_at (j : S128x100000.Idx) : hiWord j = 0#32 := by
  have hb := lin_lt j
  show BitVec.setWidth 32 (IntOp.shrui .host (lin j) 32#64) = 0#32
  rw [show IntOp.shrui .host (lin j) 32#64 = lin j >>> (32#64) from if_pos (by decide), lin_at]
  apply BitVec.eq_of_toNat_eq
  rw [BitVec.toNat_setWidth, BitVec.ushiftRight_eq', BitVec.toNat_ushiftRight, BitVec.toNat_ofNat, Nat.shiftRight_eq_div_pow]
  rw [show ((32#64).toNat) = 32 from rfl, Nat.mod_eq_of_lt (by omega), Nat.div_eq_of_lt (by omega)]
  rfl

/-- The counters' lower words are the linear indices. -/
theorem loWord_at (j : S128x100000.Idx) : loWord j = BitVec.ofNat 32 ((j 0).val * 100000 + (j 1).val) := by
  show BitVec.setWidth 32 (lin j) = _
  rw [lin_at]
  exact BitVec.setWidth_ofNat_of_le (by decide) _

/-- The reference's two words at an entry, one xored into the other, are the kernel's word at the lane that holds the entry's counter. -/
theorem drawn_xor (j : S128x100000.Idx) (c : IVec S16x128 32) (i : S16x128.Idx)
    (hc : c i = BitVec.ofNat 32 ((j 0).val * 100000 + (j 1).val) + 42#32) : drawn0 j ^^^ drawn1 j = word c i := by
  refine steps_lead j c i _ _ ?_ ?_
  · show hiWord j + 0#32 = 0#32
    rw [hiWord_at]; rfl
  · show loWord j + 42#32 = c i
    rw [loWord_at, hc]

end Cert
-- ==== Proof.Floats.lean ====
module

public import proofs.«01_k».proof.Proof.Words
public import Idealize.ShloMosaic.Lib.IdealHost
public import Idealize.ShloMosaic.Lib.Pipeline.Value

@[expose] public section

noncomputable section

namespace Cert

open Idealize.ShloMosaic Idealize.SL.Sem
open Cert.ReferenceIdeal (S128x100000 S_ drawn0 drawn1 perturbed uniform)
open Cert.KernelIdeal (S16x128 word unit expo noise vals)

/-- The 32 bits with sign 0, exponent 127 and the top 23 bits of `W` as the fraction. -/
def bitsOf (W : BitVec 32) : BitVec 32 := W >>> (9#32) ||| 1065353216#32

/-- These bits, read as a number. -/
theorem bitsOf_toNat (W : BitVec 32) : (bitsOf W).toNat = 2 ^ 23 * 127 + W.toNat / 512 := by
  have hlt : W.toNat / 512 < 2 ^ 23 := by have := W.isLt; omega
  rw [Nat.two_pow_add_eq_or_of_lt hlt, Nat.or_comm, bitsOf, BitVec.toNat_or, BitVec.ushiftRight_eq', BitVec.toNat_ushiftRight, Nat.shiftRight_eq_div_pow]
  rfl

/-- The number these bits stand for is one plus something not negative. -/
theorem unit_real (W : BitVec 32) : ∃ f : ℝ, 0 ≤ f ∧ Ideal.ofBits .f32 (bitsOf W) = ((1 + f : ℝ) : EReal) := by
  have hn := bitsOf_toNat W
  have hlt : W.toNat / 512 < 2 ^ 23 := by have := W.isLt; omega
  have hs : (bitsOf W).extractLsb' (8 + 23) 1 = 0#1 := by
    apply BitVec.eq_of_toNat_eq
    rw [BitVec.extractLsb'_toNat, hn, Nat.shiftRight_eq_div_pow]
    simp only [BitVec.toNat_ofNat]
    omega
  have he : ((bitsOf W).extractLsb' 23 8).toNat = 127 := by
    rw [BitVec.extractLsb'_toNat, hn, Nat.shiftRight_eq_div_pow]
    omega
  refine ⟨((bitsOf W).extractLsb' 0 23).toNat * (2 : ℝ) ^ (-23 : ℤ), by positivity, ?_⟩
  show Ideal.ieee 8 23 (bitsOf W) = _
  unfold Ideal.ieee
  simp only [hs, he]
  rw [if_neg (by decide), if_neg (by decide)]
  norm_num [-EReal.coe_add, -EReal.coe_mul]
  ring

/-- The smallest normal number is a positive real. -/
theorem tiny_real : ∃ t : ℝ, 0 < t ∧ Ideal.ofBits .f32 0x00800000#32 = (t : EReal) := by
  refine ⟨(2 : ℝ) ^ (-126 : ℤ), by positivity, ?_⟩
  simp [Ideal.ofBits, Ideal.ieee, -EReal.coe_mul]
  norm_num

/-- The logarithm of a positive real is a real. -/
theorem log_pos {r : ℝ} (h : 0 < r) : Ideal.log (r : EReal) = (Real.log r : EReal) := if_neg (not_le.mpr h)

/-- The logarithm is infinite above only at `+∞`. -/
theorem log_ne_top {x : EReal} (h : x ≠ ⊤) : Ideal.log x ≠ ⊤ := by
  induction x with
  | bot => exact bot_ne_top
  | top => exact absurd rfl h
  | coe r =>
    show (if r ≤ 0 then (⊥ : EReal) else (Real.log r : EReal)) ≠ ⊤
    split
    · exact bot_ne_top
    · exact EReal.coe_ne_top _

/-- What the kernel takes the logarithm of at a word. -/
def unif (W : BitVec 32) : EReal := (Ideal.ofBits .f32 (bitsOf W) - Ideal.ofBits .f32 0x3F800000#32) + Ideal.ofBits .f32 0x00800000#32

/-- The noise at a word. -/
def noiseAt (W : BitVec 32) : EReal := Ideal.log (- Ideal.log (unif W))

/-- The uniform number is a positive real, at least the smallest normal number. -/
theorem unif_real (W : BitVec 32) : ∃ r : ℝ, 0 < r ∧ unif W = (r : EReal) ∧ Ideal.ofBits .f32 0x00800000#32 ≤ unif W := by
  obtain ⟨f, hf, hu⟩ := unit_real W
  obtain ⟨t, ht, hv⟩ := tiny_real
  have e : unif W = ((f + t : ℝ) : EReal) := by
    unfold unif
    rw [hu, hv, Ideal.ofBits_one_f32, show (1 : EReal) = ((1 : ℝ) : EReal) from rfl, ← EReal.coe_sub, ← EReal.coe_add]
    congr 1
    ring
  refine ⟨f + t, by linarith, e, ?_⟩
  rw [e, hv]
  exact EReal.coe_le_coe_iff.mpr (by linarith)

/-- The noise is never `+∞`. -/
theorem noiseAt_ne_top (W : BitVec 32) : noiseAt W ≠ ⊤ := by
  obtain ⟨r, hr, e, _⟩ := unif_real W
  unfold noiseAt
  rw [e, log_pos hr, ← EReal.coe_neg]
  exact log_ne_top (EReal.coe_ne_top _)

/-- A value less the noise is `-∞` only where the value is. -/
theorem less_noise_ne_bot {x : EReal} (W : BitVec 32) (h : x ≠ ⊥) : x - noiseAt W ≠ ⊥ := by
  intro e
  rw [sub_eq_add_neg, EReal.add_eq_bot_iff] at e
  rcases e with e | e
  · exact h e
  · exact noiseAt_ne_top W (EReal.neg_eq_bot_iff.mp e)

section
variable {s : Shape}

/-- A difference at a lane. -/
theorem subf_at (a b : FVec Ideal s .f32) (i : s.Idx) : subf a b i = (a i : EReal) - b i := rfl
/-- A sum at a lane. -/
theorem addf_at (a b : FVec Ideal s .f32) (i : s.Idx) : addf a b i = (a i : EReal) + b i := rfl
/-- A product at a lane. -/
theorem mulf_at (a b : FVec Ideal s .f32) (i : s.Idx) : mulf a b i = (a i : EReal) * b i := rfl
/-- A maximum at a lane. -/
theorem maximumf_at (a b : FVec Ideal s .f32) (i : s.Idx) : maximumf a b i = max (a i : EReal) (b i) := rfl
/-- A logarithm at a lane. -/
theorem log_at (a : FVec Ideal s .f32) (i : s.Idx) : log a i = Ideal.log (a i) := rfl
/-- A host logarithm at an entry. -/
theorem hostLog_at (a : FVec Ideal s .f32) (i : s.Idx) : Host.log a i = Ideal.log (a i) := rfl
/-- A host negation at an entry. -/
theorem hostNegf_at (a : FVec Ideal s .f32) (i : s.Idx) : Host.negf a i = - (a i : EReal) := rfl
/-- The number of a word's bits at a lane. -/
theorem bitcast_at (a : IVec s 32) (i : s.Idx) : (bitcastToFloat .f32 a : FVec Ideal s .f32) i = Ideal.ofBits .f32 (a i) := rfl
/-- A constant's number at a lane. -/
theorem const_at (w : BitVec 32) (i : s.Idx) : broadcast s (Scalar.ofBits (F := Ideal) .f32 w) i = Ideal.ofBits .f32 w := rfl

/-- Two words xored at a lane. -/
theorem xori_at (a b : IVec s 32) (i : s.Idx) : xori a b i = a i ^^^ b i := rfl

/-- The kernel's bits at a lane. -/
theorem bits_at (w : IVec s 32) (i : s.Idx) : ori (shrui w (broadcast s 9#32)) (broadcast s 1065353216#32) i = bitsOf (w i) := by
  show IntOp.shrui .vector (w i) 9#32 ||| 1065353216#32 = _
  rw [shrui_small _ _ _ (by decide), bitsOf]

end

/-- The reference's bits at an entry. -/
theorem hostBits_at (w : IVec S128x100000 32) (i : S128x100000.Idx) :
    ori (Host.shrui w (ReferenceIdeal.spread (constantI S_ 32 9#32))) (ReferenceIdeal.spread (constantI S_ 32 1065353216#32)) i = bitsOf (w i) := by
  show IntOp.shrui .host (w i) 9#32 ||| 1065353216#32 = _
  rw [shrui_small _ _ _ (by decide), bitsOf]

/-- A constant of the reference at an entry. -/
theorem spreadF_at (w : BitVec 32) (i : S128x100000.Idx) : ReferenceIdeal.spreadF (F := Ideal) w i = Ideal.ofBits .f32 w := rfl

/-- The kernel's perturbed value at a lane. -/
theorem vals_at (c : IVec S16x128 32) (x : Vec Ideal S16x128 .f32) (i : S16x128.Idx) : vals c x i = (x i : EReal) - noiseAt (word c i) := by
  unfold vals noise expo unit
  generalize word c = w
  rw [subf_at, Idealize.ShloMosaic.shapeCast_self, log_at, subf_at, log_at, addf_at, subf_at, bitcast_at, bits_at, const_at, const_at, const_at, Ideal.ofBits_zero_f32,
    zero_sub, noiseAt, unif]

/-- The reference's perturbed value at an entry. -/
theorem perturbed_at (p q : IVec S128x100000 32) (x : FVec Ideal S128x100000 .f32) (j : S128x100000.Idx) :
    perturbed p q x j = (x j : EReal) - noiseAt (p j ^^^ q j) := by
  obtain ⟨_, _, _, h⟩ := unif_real (p j ^^^ q j)
  unfold perturbed uniform
  rw [addf_at, hostNegf_at, hostLog_at, hostNegf_at, hostLog_at, maximumf_at, addf_at, mulf_at, subf_at, bitcast_at, hostBits_at, spreadF_at, spreadF_at,
    Ideal.ofBits_one_f32, mul_one, add_comm, ← sub_eq_add_neg, xori_at]
  rw [unif, Ideal.ofBits_one_f32] at h
  rw [noiseAt, unif, Ideal.ofBits_one_f32, max_eq_right h]

end Cert
-- ==== Proof.ValueRun.lean ====
module

public import proofs.«01_k».proof.Proof.Run

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Facts₀ Facts

variable {F : FTy → Type} [FloatOps F]

local notation "𝕄" => MT nD τ sig Unit (Elt F) ℕ (UR sig nD τ) ℕ

variable (m : (ℓ : Loc nD τ sig) → Buf (Elt F) ℓ)

/-! ## The scratch buffers point by point -/

/-- The grid point `n`, the first one past the grid's end. -/
def point (n : Nat) : Fin cfg0.N := if h : n < cfg0.N then ⟨n, h⟩ else ⟨0, by decide⟩

theorem point_val (t : Fin cfg0.N) : point t.val = t := dif_pos t.isLt

/-- The running maxima before point `n`, the first scratch buffer found at `R`. -/
def scanMax (c : Dev nD) (R : S16x128.Idx → Elt F .f32) : Nat → S16x128.Idx → Elt F .f32
  | 0 => R
  | n + 1 => maxStep (grid0.coords (point n)) (Gen.iblk m c 0 (point n)) (scanMax c R n)

/-- The counters before point `n`, the scratch buffers found at `R` and `I`. -/
def scanIdx (c : Dev nD) (R : S16x128.Idx → Elt F .f32) (I : S16x128.Idx → Elt F .i32) : Nat → S16x128.Idx → Elt F .i32
  | 0 => I
  | n + 1 => idxStep (grid0.coords (point n)) (Gen.iblk m c 0 (point n)) (scanMax m c R n) (scanIdx c R I n)

theorem scanMax_succ (c : Dev nD) (R : S16x128.Idx → Elt F .f32) (t : Fin cfg0.N) :
    scanMax m c R (t.val + 1) = maxStep (grid0.coords t) (Gen.iblk m c 0 t) (scanMax m c R t.val) := by
  rw [scanMax, point_val]

theorem scanIdx_succ (c : Dev nD) (R : S16x128.Idx → Elt F .f32) (I : S16x128.Idx → Elt F .i32) (t : Fin cfg0.N) :
    scanIdx m c R I (t.val + 1) = idxStep (grid0.coords t) (Gen.iblk m c 0 t) (scanMax m c R t.val) (scanIdx m c R I t.val) := by
  rw [scanIdx, point_val]

/-- The invariant before point `n`: the scratch buffers hold the maxima and counters so far. -/
def tracked (c : Dev nD) (n : Nat) (_ : n ≤ cfg0.N) : sProp 𝕄 :=
  iprop((∃ R I, (((c : Thread nD τ).loc cc0_scratch0) ↦{fullShare} scanMax m c R n)
      ∗ (((c : Thread nD τ).loc cc0_scratch1) ↦{fullShare} scanIdx m c R I n))
    ∗ (∃ r, prngReg c r))

/-- The proof data of the value run: the scratch buffers tracked, the result at `G`. -/
def held (G : (c : Dev nD) → S1x128.Idx → Elt F .i32) (_ : Fin 1) (c : Dev nD) : Dat τ (Elt F) Unit ℕ (UR sig nD τ) ℕ cfg0 c where
  A w := Gen.V m c (Pipeline.arrRef spec0 w)
  after := fun
    | 0, t => Gen.iblk m c 0 t
    | 1, t => G c
    | ⟨_ + 2, h⟩, _ => absurd h (Nat.not_lt.2 (Nat.le_add_left _ _))
  Φ t := tracked m c t.val (Nat.le_of_lt_succ t.isLt)
  q _ := fullShare
  owed _ := 0

variable (G : (c : Dev nD) → S1x128.Idx → Elt F .i32)

/-- The logits' buffer holds its block at every point. -/
theorem held_before (c : Dev nD) (t : Fin cfg0.N) (d) : (held m G 0 c).before 0 t d = Gen.iblk m c 0 t :=
  Gen.before0_0_of m (held m G 0 c) rfl (fun _ => rfl) t d

/-- The invariant before a point. -/
theorem held_castSucc (c : Dev nD) (t : Fin cfg0.N) : (held m G 0 c).Φ t.castSucc = tracked m c t.val (Nat.le_of_lt t.isLt) := by
  dsimp only [held]
  exact Pipeline.Dat.Φ_castSucc (tracked m c) t

/-- The invariant after a point. -/
theorem held_succ (c : Dev nD) (t : Fin cfg0.N) : (held m G 0 c).Φ t.succ = tracked m c (t.val + 1) t.isLt := rfl

/-- The answer is stored at the last point only. -/
theorem stores_iff : ∀ t : Fin cfg0.N, k0_cond1 (grid0.coords t) = 1#1 ↔ t.val = 24 := by decide +kernel

/-- The result's window is idle but at the last point. -/
theorem idle_of_ne (t : Fin cfg0.N) (h : t.val ≠ 24) : idle0 1 (grid0.coords t) = true := by
  show (!(k0_cond1 (grid0.coords t) == 1#1)) = true
  rw [Bool.not_eq_true', beq_eq_false_iff_ne]
  exact fun e => h ((stores_iff t).mp e)

theorem idle_of_eq (t : Fin cfg0.N) (h : t.val = 24) : idle0 1 (grid0.coords t) = false := by
  show (!(k0_cond1 (grid0.coords t) == 1#1)) = false
  rw [Bool.not_eq_false', beq_iff_eq]
  exact (stores_iff t).mpr h

/-- The result's window is written back at the last point only. -/
theorem flush_of_ne (t : Fin cfg0.N) (h : t.val ≠ 24) : (win0 1).flush t = false := by
  have hlt : t.val < 25 := t.isLt
  rw [← Bool.not_eq_true]
  exact fun e => h (by have := (Gen.flush0_1 t).mp e; omega)

/-- The body obligation of the value run. -/
theorem held_obligation
    (hG : ∀ (c : Dev nD) R I, answer (scanMax m c R 25) (scanIdx m c R I 25) = G c) (c : Dev nD) :
    BodyObligationLoose (held m G 0 c) (defs₀ (F := F)) Variants.none () Set.univ := fun t => by
  rw [Gen.bigSep_W0, Gen.bigSep_W0, defs₀_row]
  rw [held_castSucc, held_succ, show (held m G 0 c).owesAt () t.succ = (held m G 0 c).owesAt () t.castSucc from rfl]
  unfold tracked
  by_cases ht : t.val = 24
  · simp only [idle_of_eq t ht]
    iintro ⟨⟨⟨%R, %I, H3, H4⟩, Hr⟩, Ho, ⟨%d, H0⟩, ⟨%d1, H1⟩⟩
    rw [held_before]
    iapply (sound_body c Set.univ (grid0.coords t) ((cfg0.slots t 0).cast nbuf0_0) ((cfg0.slots t 1).cast nbuf0_1) (Gen.iblk m c 0 t)
      ((held m G 0 c).before 1 t d1) (scanMax m c R t.val) (scanIdx m c R I t.val) _)
    isplitl [H0]; · iexact H0
    isplitl [H1]; · iexact H1
    isplitl [H3]; · iexact H3
    isplitl [H4]; · iexact H4
    rw [if_pos ((stores_iff t).mpr ht), ← scanMax_succ, ← scanIdx_succ]
    iintro ⟨H0, H1, H3, H4⟩
    isplitl [H3 H4 Hr]
    · isplitl [H3 H4]
      · iexists R, I
        isplitl [H3]; · iexact H3
        iexact H4
      iexact Hr
    isplitl [Ho]; · iexact Ho
    isplitl [H0]; · iexact H0
    rw [show t.val + 1 = 25 by omega, hG c R I]
    iexact H1
  · simp only [idle_of_ne t ht, flush_of_ne t ht]
    iintro ⟨⟨⟨%R, %I, H3, H4⟩, Hr⟩, Ho, ⟨%d, H0⟩, ⟨%d1, H1⟩⟩
    rw [held_before]
    iapply (sound_body c Set.univ (grid0.coords t) ((cfg0.slots t 0).cast nbuf0_0) ((cfg0.slots t 1).cast nbuf0_1) (Gen.iblk m c 0 t)
      ((held m G 0 c).before 1 t d1) (scanMax m c R t.val) (scanIdx m c R I t.val) _)
    isplitl [H0]; · iexact H0
    isplitl [H1]; · iexact H1
    isplitl [H3]; · iexact H3
    isplitl [H4]; · iexact H4
    rw [if_neg (fun e => ht ((stores_iff t).mp e)), ← scanMax_succ, ← scanIdx_succ]
    iintro ⟨H0, H1, H3, H4⟩
    isplitl [H3 H4 Hr]
    · isplitl [H3 H4]
      · iexists R, I
        isplitl [H3]; · iexact H3
        iexact H4
      iexact Hr
    isplitl [Ho]; · iexact Ho
    isplitl [H0]; · iexact H0
    iexists d1
    iexact H1

/-- The result's one block is the whole array. -/
theorem result_emb (t : Fin cfg0.N) (j : S1x128.Idx) : (win0_1.blk t).view.emb j = j := by
  funext a
  apply Fin.ext
  match a with
  | ⟨0, _⟩ => show 0 * 1 + 1 * (j 0).val = (j 0).val; omega
  | ⟨1, _⟩ => show 0 * 128 + 1 * (j 1).val = (j 1).val; omega

/-- The result's array ends at `G`. -/
theorem held_final (c : Dev nD) : (held m G 0 c).arrAt 1 cfg0.N = G c :=
  (held m G 0 c).arrAt_eq_of_cover 1 (G c)
    (fun t _ => by
      funext j
      show G c j = G c ((win0_1.blk t).view.emb j)
      rw [result_emb])
    (fun i => ⟨⟨24, by decide⟩, (Gen.flush0_1 _).mpr (by decide), by
      have h := (win0_1.blk ⟨24, by decide⟩).view.emb_mem_set i
      rw [result_emb] at h
      exact h⟩)

/-- THE VALUE RUN of the kernel at any float domain: where the scan over the points gives `G`, whatever the scratch
    buffers held, the run ends with the result at `G` and the argument unchanged. -/
theorem run (ρ : Dev nD → PrngReg)
    (hG : ∀ (c : Dev nD) R I, answer (scanMax m c R 25) (scanIdx m c R I 25) = G c) :
    θ_run defs (onTc (τ := τ) (main (F := F))) ⟨m, fun _ => 0, ρ⟩ (fun r => ∀ c : Dev nD,
      r.2.mem ((c.tc : Thread nD τ).loc main_v2) = shapeCast S128 (G c) shapeCasts_S1x128_S128
      ∧ r.2.mem ((c.tc : Thread nD τ).loc main_arg0) = m ((c.tc : Thread nD τ).loc main_arg0)) :=
  Pipeline.θ_run_frame_around_track cfgs (held m G) 0 Gen.launch0 defs₀ Variants.none m ρ main
    (held_obligation m G hG) (fun c w => (by unfold Dat.share; split <;> rfl)) (fun _ _ => rfl) (Gen.V0 m) [Gen.hostOps1]
    Gen.sfx_sub Gen.sfx_fresh Gen.sfx_keeps
    (Gen.hmain m Variants.none) (fun _ _ => rfl)
    (fun c => by
      show Pipeline.ΦA spec0 c ⊢ tracked m c 0 (by decide)
      unfold Pipeline.ΦA tracked
      rw [Gen.scopedRest0_eq]
      iintro ⟨⟨⟨%R, H3⟩, ⟨%I, H4⟩⟩, Hr⟩
      isplitl [H3 H4]
      · iexists R, I
        isplitl [H3]; · iexact H3
        iexact H4
      iexact Hr)
    (fun c => by
      show tracked m c 25 (by decide) ⊢ Pipeline.ΦA spec0 c
      unfold Pipeline.ΦA tracked
      rw [Gen.scopedRest0_eq]
      iintro ⟨⟨%R, %I, H3, H4⟩, Hr⟩
      isplitl [H3 H4]
      · isplitl [H3]
        · iexists _; iexact H3
        iexists _; iexact H4
      iexact Hr)
    _
    (fun r h c => ⟨((h.1 c).2 main_v2 (Pipeline.mem_restRefs_of main_v2 (by decide) (by decide))).trans (by
        unfold Pipeline.afterTail₀
        simp only [Gen.hostOps1, List.flatten_cons, List.flatten_nil, List.append_nil, List.cons_append, List.nil_append]
        after_results_simp
        exact congrArg (fun v => shapeCast S128 v shapeCasts_S1x128_S128)
          ((Pipeline.withArrays_arr spec0 Gen.launch0.win.arr_inj c (Gen.V0 m c)
            (fun w => (held m G 0 c).arrAt w (cfgs 0).N) 1).trans (held_final m G c))),
      ((h.1 c).2 main_arg0 (Pipeline.mem_restRefs_of main_arg0 (by decide) (by decide))).trans (Gen.W_main_arg0 m (held m G) c)⟩)

end Cert.KernelIdeal

end
-- ==== Proof.Reads.lean ====
module

public import proofs.«01_k».proof.Proof.ValueRun
public import Idealize.ShloMosaic.Lib.ValueLayout

@[expose] public section

noncomputable section

namespace Cert.KernelIdeal

open Idealize.ShloMosaic Idealize.ShloMosaic.TcCoe Idealize.ShloMosaic.StableHlo Idealize.SL.Sem
open Idealize.ShloMosaic.ValueIdx (ix1 ix2)
open Facts₀ Facts

variable {F : FTy → Type} [FloatOps F]
variable (m : (ℓ : Loc nD τ sig) → Buf (Elt F) ℓ)

/-- The launch's operand is the transposed argument. -/
theorem operand (c : Dev nD) : Gen.V m c main_v0 = transpose S100000x128 [1, 0] (m ((c : Thread nD τ).loc main_arg0)) transposes_S128x100000_S100000x128_1_0 := by
  show StableHlo.after Gen.hostOps0 (fun b => m (c, b)) (main_v0 : DevRef τ sig) = _
  after_results_simp

/-- The grid's coordinate of point `n`. -/
theorem coords_point : ∀ n : Fin 25, ((grid0.coords (point n.val)) 0).val = n.val := by decide +kernel

/-- Entry `(p, l)` of the block at point `n` lies at `(4000 n + p, l)` of the operand. -/
theorem block_emb (n : Fin 25) (p : Fin 4000) (l : Fin 128) :
    (win0_0.blk (point n.val)).view.emb (ix2 p l : S4000x128.Idx) = (ix2 (⟨4000 * n.val + p.val, by omega⟩ : Fin 100000) l : S100000x128.Idx) := by
  have hi : ∀ n : Fin 25, win0_0.index (point n.val) 0 = n.val := by decide +kernel
  funext a
  apply Fin.ext
  match a with
  | ⟨0, _⟩ =>
    have := hi n
    show win0_0.index (point n.val) 0 * 4000 + 1 * p.val = 4000 * n.val + p.val
    omega
  | ⟨1, _⟩ => show 0 * 128 + 1 * l.val = l.val; omega

/-- Entry `(p, l)` of the block at point `n` is the argument's entry `(l, 4000 n + p)`. -/
theorem iblk_at (c : Dev nD) (n : Fin 25) (p : Fin 4000) (l : Fin 128) :
    Gen.iblk m c 0 (point n.val) (ix2 p l)
      = m ((c : Thread nD τ).loc main_arg0) (ix2 l (⟨4000 * n.val + p.val, by omega⟩ : Fin 100000)) := by
  unfold Gen.iblk
  show Gen.V m c main_v0 ((win0_0.blk (point n.val)).view.emb (ix2 p l : S4000x128.Idx)) = _
  rw [block_emb, operand]
  exact ValueIdx.transpose_ix2_apply _ _ _ _

/-- Entry `(r, l)` of tile `t` of a block is the block's entry `(16 t + r, l)`. -/
theorem tileOf_at (X : S4000x128.Idx → Elt F .f32) (t : Fin 250) (r : Fin 16) (l : Fin 128) :
    tileOf X t.val (ix2 r l) = X (ix2 (⟨16 * t.val + r.val, by omega⟩ : Fin 4000) l) := by
  rw [tileOf, dif_pos t.isLt]
  show X _ = X _
  congr 1
  funext a
  apply Fin.ext
  match a with
  | ⟨0, _⟩ => show 16 * t.val + 1 * r.val = 16 * t.val + r.val; omega
  | ⟨1, _⟩ => show 0 + 1 * l.val = l.val; omega

end Cert.KernelIdeal
-- ==== Proof.Scan.lean ====
module

public import proofs.«01_k».proof.Proof.Floats
public import proofs.«01_k».proof.Proof.Reads

@[expose] public section

noncomputable section

namespace Cert

open Idealize.ShloMosaic Idealize.ShloMosaic.TcCoe Idealize.SL.Sem
open Idealize.ShloMosaic.ValueIdx (ix1 ix2)
open Cert.ReferenceIdeal (drawn0 drawn1 perturbed)
open Cert.KernelIdeal (S16x128 S4000x128 base ctr word vals maxNext idxNext maxAt idxAt maxStep idxStep tileOf grid0 point scanMax scanIdx start nD τ sig main_arg0)

/-- The counter of entry `(l, v)`. -/
def cnt (l v : ℕ) : BitVec 32 := BitVec.ofNat 32 (l * 100000 + v) + 42#32

/-- The perturbed logit of entry `(l, v)`; `-∞` past the row's end. -/
def score (x : FVec Ideal ReferenceIdeal.S128x100000 .f32) (l : Fin 128) (v : ℕ) : EReal :=
  if h : v < 100000 then perturbed drawn0 drawn1 x (ix2 l (⟨v, h⟩ : Fin 100000)) else ⊥

/-- The counters before any offset at a lane. -/
theorem base_at (r : Fin 16) (l : Fin 128) : base (ix2 r l) = BitVec.ofNat 32 l.val * 100000#32 + BitVec.ofNat 32 r.val + 42#32 := by
  show BitVec.ofNat 32 (0 * 128 + l.val) * 100000#32 + BitVec.ofNat 32 (0 * 16 + r.val) + 42#32 = _
  simp only [Nat.zero_mul, Nat.zero_add]

/-- The counter of a lane of tile `t` at step `a` is that of the entry the lane holds. -/
theorem ctr_at (a : Fin 25) (t : Fin 250) (r : Fin 16) (l : Fin 128) :
    ctr (BitVec.ofNat 32 a.val) t.val (ix2 r l) = cnt l.val (4000 * a.val + (16 * t.val + r.val)) := by
  show base (ix2 r l) + (BitVec.ofNat 32 a.val * 4000#32 + BitVec.ofNat 32 (16 * t.val)) = _
  rw [base_at, cnt]
  apply BitVec.eq_of_toNat_eq
  simp only [BitVec.toNat_add, BitVec.toNat_mul, BitVec.toNat_ofNat]
  omega

/-- After the first `T` entries of residue `r` modulo 16, the running maximum `M` and counter `I`: `M` is the largest of `f` on
    them, and where it is not `-∞`, `I` is `g` at the first of them that attains it. -/
def Best (f : ℕ → EReal) (g : ℕ → BitVec 32) (r T : ℕ) (M : EReal) (I : BitVec 32) : Prop :=
  (∀ t < T, f (16 * t + r) ≤ M) ∧ (M = ⊥ ∨ ∃ t < T, f (16 * t + r) = M ∧ I = g (16 * t + r) ∧ ∀ t' < t, f (16 * t' + r) < M)

/-- Before any entry the maximum is `-∞`. -/
theorem Best.zero (f : ℕ → EReal) (g : ℕ → BitVec 32) (r : ℕ) (I : BitVec 32) : Best f g r 0 ⊥ I :=
  ⟨fun t h => absurd h (Nat.not_lt_zero t), Or.inl rfl⟩

/-- One entry more: a strictly larger one replaces the maximum and the counter. -/
theorem Best.succ {f : ℕ → EReal} {g : ℕ → BitVec 32} {r T : ℕ} {M : EReal} {I : BitVec 32} (h : Best f g r T M I) :
    Best f g r (T + 1) (if M < f (16 * T + r) then f (16 * T + r) else M) (if M < f (16 * T + r) then g (16 * T + r) else I) := by
  obtain ⟨h1, h2⟩ := h
  by_cases hlt : M < f (16 * T + r)
  · rw [if_pos hlt, if_pos hlt]
    refine ⟨fun t ht => ?_, Or.inr ⟨T, Nat.lt_succ_self T, rfl, rfl, fun t ht => lt_of_le_of_lt (h1 t ht) hlt⟩⟩
    rcases Nat.lt_succ_iff_lt_or_eq.mp ht with ht | rfl
    · exact (h1 t ht).trans hlt.le
    · exact le_refl _
  · rw [if_neg hlt, if_neg hlt]
    refine ⟨fun t ht => ?_, h2.imp id fun ⟨t, ht, e⟩ => ⟨t, Nat.lt_succ_of_lt ht, e⟩⟩
    rcases Nat.lt_succ_iff_lt_or_eq.mp ht with ht | rfl
    · exact h1 t ht
    · exact not_lt.mp hlt

/-- A choice between two by a flag that tells whether a proposition holds. -/
theorem select_decide {α : Type} (p : Prop) [Decidable p] (a b : α) : Scalar.select (BitVec.ofBool (decide p)) a b = if p then a else b := by
  by_cases h : p
  · rw [if_pos h, decide_eq_true h]; rfl
  · rw [if_neg h, decide_eq_false h]; rfl

/-- The running maximum after a tile at a lane. -/
theorem maxNext_at (c : IVec S16x128 32) (x : Vec Ideal S16x128 .f32) (rm : FVec Ideal S16x128 .f32) (i : S16x128.Idx) :
    maxNext c x rm i = if (rm i : EReal) < vals c x i then vals c x i else rm i := by
  unfold maxNext
  generalize vals c x = v
  exact select_decide ((rm i : EReal) < v i) (v i) (rm i)

/-- The running counter after a tile at a lane. -/
theorem idxNext_at (c : IVec S16x128 32) (x : Vec Ideal S16x128 .f32) (rm : FVec Ideal S16x128 .f32) (ri : IVec S16x128 32) (i : S16x128.Idx) :
    idxNext c x rm ri i = if (rm i : EReal) < vals c x i then c i else ri i := by
  unfold idxNext
  generalize vals c x = v
  exact select_decide ((rm i : EReal) < v i) (c i) (ri i)

variable (m : (ℓ : Loc nD τ sig) → Buf (Elt Ideal) ℓ) (c : Dev nD)

/-- The kernel's perturbed value at a lane is the perturbed logit of the entry the lane holds. -/
theorem vals_score (a : Fin 25) (t : Fin 250) (r : Fin 16) (l : Fin 128) :
    vals (ctr (BitVec.ofNat 32 a.val) t.val) (tileOf (F := Ideal) (KernelIdeal.Gen.iblk m c 0 (point a.val)) t.val) (ix2 r l)
      = score (m ((c : Thread nD τ).loc main_arg0)) l (4000 * a.val + (16 * t.val + r.val)) := by
  have hv : 4000 * a.val + (16 * t.val + r.val) < 100000 := by omega
  rw [vals_at, KernelIdeal.tileOf_at, KernelIdeal.iblk_at, score, dif_pos hv, perturbed_at,
    drawn_xor (ix2 l (⟨_, hv⟩ : Fin 100000)) (ctr (BitVec.ofNat 32 a.val) t.val) (ix2 r l) (ctr_at a t r l)]

/-- The running maximum and counter of a lane over a block's tiles. -/
theorem block_best (a : Fin 25) (r : Fin 16) (l : Fin 128) (rm : FVec Ideal S16x128 .f32) (ri : IVec S16x128 32)
    (h : Best (score (m ((c : Thread nD τ).loc main_arg0)) l) (cnt l.val) r.val (250 * a.val) (rm (ix2 r l)) (ri (ix2 r l))) :
    ∀ t, t ≤ 250 → Best (score (m ((c : Thread nD τ).loc main_arg0)) l) (cnt l.val) r.val (250 * a.val + t)
      (maxAt (BitVec.ofNat 32 a.val) (KernelIdeal.Gen.iblk m c 0 (point a.val)) rm t (ix2 r l))
      (idxAt (BitVec.ofNat 32 a.val) (KernelIdeal.Gen.iblk m c 0 (point a.val)) rm ri t (ix2 r l))
  | 0, _ => h
  | t + 1, ht => by
    have ih := (block_best a r l rm ri h t (by omega)).succ
    have e : 16 * (250 * a.val + t) + r.val = 4000 * a.val + (16 * t + r.val) := by omega
    rw [e] at ih
    rw [KernelIdeal.maxAt, KernelIdeal.idxAt, maxNext_at, idxNext_at, vals_score m c a ⟨t, ht⟩ r l, ctr_at a ⟨t, ht⟩ r l]
    exact ih

/-- The pattern of `-∞`. -/
theorem negInf : Ideal.ofBits .f32 0xFF800000#32 = ⊥ := by
  simp [Ideal.ofBits, Ideal.ieee]

/-- At the first step a lane starts from `-∞`, at the others from the scratch buffer. -/
theorem start_at (n : Fin 25) (rm : FVec Ideal S16x128 .f32) (i : S16x128.Idx) :
    start (F := Ideal) (grid0.coords (point n.val)) rm i = if n.val = 0 then (⊥ : EReal) else rm i := by
  unfold start
  rw [KernelIdeal.coords_point]
  by_cases h : n.val = 0
  · rw [if_pos h, h]
    exact negInf
  · rw [if_neg h]
    have hne : ∀ n : Fin 25, n.val ≠ 0 → Scalar.cmpi .eq (BitVec.ofNat 32 n.val) 0#32 = 0#1 := by decide
    rw [hne n h]
    rfl

/-- The running maximum and counter of a lane over the blocks. -/
theorem scan_best (R : S16x128.Idx → Elt Ideal .f32) (I : S16x128.Idx → Elt Ideal .i32) (r : Fin 16) (l : Fin 128) :
    ∀ n, n < 25 → Best (score (m ((c : Thread nD τ).loc main_arg0)) l) (cnt l.val) r.val (250 * (n + 1))
      (scanMax m c R (n + 1) (ix2 r l)) (scanIdx m c R I (n + 1) (ix2 r l)) := by
  have step : ∀ n (hn : n < 25) (rm : FVec Ideal S16x128 .f32) (ri : IVec S16x128 32),
      Best (score (m ((c : Thread nD τ).loc main_arg0)) l) (cnt l.val) r.val (250 * n) (start (grid0.coords (point n)) rm (ix2 r l)) (ri (ix2 r l)) →
      Best (score (m ((c : Thread nD τ).loc main_arg0)) l) (cnt l.val) r.val (250 * (n + 1))
        (maxStep (grid0.coords (point n)) (KernelIdeal.Gen.iblk m c 0 (point n)) rm (ix2 r l))
        (idxStep (grid0.coords (point n)) (KernelIdeal.Gen.iblk m c 0 (point n)) rm ri (ix2 r l)) := by
    intro n hn rm ri h
    have := block_best m c ⟨n, hn⟩ r l _ ri h 250 (le_refl _)
    rw [maxStep, idxStep, KernelIdeal.coords_point ⟨n, hn⟩]
    exact this
  intro n
  induction n with
  | zero =>
    intro hn
    refine step 0 hn R I ?_
    rw [start_at ⟨0, hn⟩]
    exact Best.zero _ _ _ _
  | succ n ih =>
    intro hn
    refine step (n + 1) hn _ _ ?_
    rw [start_at ⟨n + 1, hn⟩, if_neg (Nat.succ_ne_zero n)]
    exact ih (by omega)

end Cert
-- ==== Proof.Pick.lean ====
module

public import proofs.«01_k».proof.Proof.Scan
public import proofs.«01_k».proof.Pre_some_logit

@[expose] public section

noncomputable section

namespace Cert

open Idealize.ShloMosaic Idealize.ShloMosaic.TcCoe Idealize.SL.Sem
open Idealize.ShloMosaic.ValueIdx (ix1 ix2 eq_ix2)
open Cert.ReferenceIdeal (drawn0 drawn1 perturbed S128x100000 S128 reducer_argmax_f32_i32 places)

/-- A fold that keeps one of its two operands, the lesser or equal, ends at a lower bound of the start and of the operands,
    and at one of them. -/
theorem foldl_pick {ι α : Type} (le : α → α → Prop) (hrefl : ∀ a, le a a) (htrans : ∀ a b c, le a b → le b c → le a c)
    (f : α → α → α) (hsel : ∀ a b, f a b = a ∨ f a b = b) (hl : ∀ a b, le (f a b) a) (hr : ∀ a b, le (f a b) b) (g : ι → α) :
    ∀ (L : List ι) (z : α), le (L.foldl (fun a i => f a (g i)) z) z ∧ (∀ i ∈ L, le (L.foldl (fun a i => f a (g i)) z) (g i))
      ∧ (L.foldl (fun a i => f a (g i)) z = z ∨ ∃ i ∈ L, L.foldl (fun a i => f a (g i)) z = g i)
  | [], z => ⟨hrefl z, fun _ h => absurd h List.not_mem_nil, Or.inl rfl⟩
  | i :: L, z => by
    obtain ⟨h1, h2, h3⟩ := foldl_pick le hrefl htrans f hsel hl hr g L (f z (g i))
    rw [List.foldl_cons]
    refine ⟨htrans _ _ _ h1 (hl _ _), fun k hk => ?_, ?_⟩
    · rcases List.mem_cons.mp hk with rfl | hk
      · exact htrans _ _ _ h1 (hr _ _)
      · exact h2 k hk
    · rcases h3 with h3 | ⟨k, hk, h3⟩
      · rw [h3]
        rcases hsel z (g i) with e | e
        · exact Or.inl e
        · exact Or.inr ⟨i, List.mem_cons_self, e⟩
      · exact Or.inr ⟨k, List.mem_cons_of_mem _ hk, h3⟩

/-- `V` is the first place of the largest of the first 100000 values of `f`, which is not `-∞`. -/
def First (f : ℕ → EReal) (V : ℕ) : Prop := V < 100000 ∧ f V ≠ ⊥ ∧ (∀ u < 100000, f u ≤ f V) ∧ ∀ u < V, f u < f V

/-- There is such a place when some value is not `-∞`. -/
theorem exists_first {f : ℕ → EReal} {v : ℕ} (hv : v < 100000) (hf : f v ≠ ⊥) : ∃ V, First f V := by
  have hex : ∃ V, V < 100000 ∧ ∀ u < 100000, f u ≤ f V := by
    obtain ⟨V, hV, h⟩ := Finset.exists_max_image (Finset.range 100000) f ⟨v, Finset.mem_range.mpr hv⟩
    exact ⟨V, Finset.mem_range.mp hV, fun u hu => h u (Finset.mem_range.mpr hu)⟩
  classical
  obtain ⟨h1, h2⟩ := Nat.find_spec hex
  refine ⟨Nat.find hex, h1, fun e => hf (le_bot_iff.mp (e ▸ h2 v hv)), h2, fun u hu => ?_⟩
  refine lt_of_le_of_ne (h2 u (hu.trans h1)) fun e => Nat.find_min hex hu ⟨hu.trans h1, fun w hw => ?_⟩
  rw [e]
  exact h2 w hw

/-- The order the reference's choice follows: the larger value first, at equal values the smaller index. -/
def before (a b : EReal × BitVec 32) : Prop := b.1 < a.1 ∨ (a.1 = b.1 ∧ a.2.toInt ≤ b.2.toInt)

/-- The reference's choice between two pairs. -/
theorem reducer_eq (a b : EReal × BitVec 32) : reducer_argmax_f32_i32 (F := Ideal) a b =
    if b.1 < a.1 then a else if a.1 = b.1 ∧ a.2.toInt < b.2.toInt then a else b := by
  obtain ⟨a1, a2⟩ := a
  obtain ⟨b1, b2⟩ := b
  have key : reducer_argmax_f32_i32 (F := Ideal) (a1, a2) (b1, b2) =
      (Scalar.select (BitVec.ofBool (decide (b1 < a1)) ||| BitVec.ofBool (decide (a1 ≠ a1))) a1 b1,
       Scalar.select ((BitVec.ofBool (decide (b1 < a1)) ||| BitVec.ofBool (decide (a1 ≠ a1)))
        ||| (BitVec.ofBool (decide (a1 = b1)) &&& BitVec.ofBool (a2.slt b2))) a2 b2) := rfl
  rw [key]
  have h0 : decide (a1 ≠ a1) = false := decide_eq_false (fun h => h rfl)
  have hs : a2.slt b2 = decide (a2.toInt < b2.toInt) := rfl
  rw [h0, hs]
  dsimp only
  by_cases h : b1 < a1
  · rw [if_pos h, decide_eq_true h, decide_eq_false h.ne']
    cases decide (a2.toInt < b2.toInt) <;> rfl
  · rw [if_neg h, decide_eq_false h]
    by_cases he : a1 = b1
    · by_cases hi : a2.toInt < b2.toInt
      · rw [if_pos ⟨he, hi⟩, decide_eq_true he, decide_eq_true hi, he]; rfl
      · rw [if_neg (fun hh => hi hh.2), decide_eq_true he, decide_eq_false hi]; rfl
    · rw [if_neg (fun hh => he hh.1), decide_eq_false he]
      cases decide (a2.toInt < b2.toInt) <;> rfl

theorem before_refl (a : EReal × BitVec 32) : before a a := Or.inr ⟨rfl, le_refl _⟩

theorem before_trans (a b c : EReal × BitVec 32) (h : before a b) (h' : before b c) : before a c := by
  rcases h with h | ⟨h, hi⟩ <;> rcases h' with h' | ⟨h', hi'⟩
  · exact Or.inl (h'.trans h)
  · exact Or.inl (h' ▸ h)
  · exact Or.inl (h ▸ h')
  · exact Or.inr ⟨h.trans h', hi.trans hi'⟩

theorem reducer_sel (a b : EReal × BitVec 32) : reducer_argmax_f32_i32 (F := Ideal) a b = a ∨ reducer_argmax_f32_i32 (F := Ideal) a b = b := by
  rw [reducer_eq]
  split
  · exact Or.inl rfl
  · split
    · exact Or.inl rfl
    · exact Or.inr rfl

theorem reducer_left (a b : EReal × BitVec 32) : before (reducer_argmax_f32_i32 (F := Ideal) a b) a := by
  rw [reducer_eq]
  split
  · exact before_refl a
  · next h =>
    split
    · exact before_refl a
    · next h' =>
      rcases lt_or_eq_of_le (not_lt.mp h) with h | h
      · exact Or.inl h
      · exact Or.inr ⟨h.symm, not_lt.mp fun hi => h' ⟨h, hi⟩⟩

theorem reducer_right (a b : EReal × BitVec 32) : before (reducer_argmax_f32_i32 (F := Ideal) a b) b := by
  rw [reducer_eq]
  split
  · next h => exact Or.inl h
  · split
    · next h' => exact Or.inr ⟨h'.1, h'.2.le⟩
    · exact before_refl b

/-- A word of a natural below `2³¹`, read as a signed integer. -/
theorem toInt_ofNat {n : ℕ} (h : n < 2147483648) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- A list's member test by a decidable property of the positions. -/
theorem mem_positions {n : ℕ} (p : Fin n → Prop) [DecidablePred p] (k : Fin n) : k ∈ (List.finRange n).filter (fun k => decide (p k)) ↔ p k := by
  rw [List.mem_filter]
  exact ⟨fun h => of_decide_eq_true h.2, fun h => ⟨List.mem_finRange k, decide_eq_true h⟩⟩

/-- The reference's choice over a list of places of a row that holds the first place of the largest ends there. -/
theorem pick_first {ι : Type} (L : List ι) (val : ι → EReal) (pos : ι → ℕ) (z : EReal × BitVec 32) (f : ℕ → EReal) (V : ℕ) (hz : z.1 = ⊥) (h : First f V)
    (hL : ∀ i ∈ L, pos i < 100000 ∧ val i = f (pos i)) (hV : ∃ i ∈ L, pos i = V) :
    (L.foldl (fun a i => reducer_argmax_f32_i32 (F := Ideal) a (val i, BitVec.ofNat 32 (pos i))) z).2 = BitVec.ofNat 32 V := by
  obtain ⟨h1, hb, hmax, hmin⟩ := h
  obtain ⟨-, h2, h3⟩ := foldl_pick before before_refl before_trans (reducer_argmax_f32_i32 (F := Ideal)) reducer_sel reducer_left reducer_right
    (fun i => (val i, BitVec.ofNat 32 (pos i))) L z
  generalize L.foldl (fun a i => reducer_argmax_f32_i32 (F := Ideal) a (val i, BitVec.ofNat 32 (pos i))) z = R at h2 h3 ⊢
  obtain ⟨v, hv, rfl⟩ := hV
  have hle := h2 v hv
  unfold before at hle
  dsimp only at hle
  rw [(hL v hv).2] at hle
  rcases h3 with rfl | ⟨k, hk, rfl⟩
  · rw [hz] at hle
    rcases hle with hle | ⟨hle, -⟩
    · exact absurd hle not_lt_bot
    · exact absurd hle.symm hb
  · obtain ⟨hk1, hk2⟩ := hL k hk
    dsimp only at hle ⊢
    rw [hk2, toInt_ofNat (by omega), toInt_ofNat (by omega)] at hle
    rcases hle with hle | ⟨he, hle⟩
    · exact absurd hle (not_lt.mpr (hmax _ hk1))
    · rcases Nat.lt_or_ge (pos k) (pos v) with hlt | hge
      · exact absurd he (hmin _ hlt).ne
      · rw [show pos k = pos v by omega]

/-- A float constant at an index. -/
theorem constant_at {s : Shape} (w : BitVec 32) (i : s.Idx) : (constant s .f32 w : FVec Ideal s .f32) i = Ideal.ofBits .f32 w := rfl

/-- A row's entries are those that the reduction drops to the row. -/
theorem drop_row (h : S128x100000.ReducesTo [1] S128) (i : S128x100000.Idx) (l : Fin 128) : h.drop i = ix1 l ↔ (i 0).val = l.val := by
  have e : (h.drop i 0 : ℕ) = i 0 := Shape.ReducesTo.drop_apply_val_of_eq h i 0 0
  constructor
  · intro hd
    rw [← e, hd]
  · intro hd
    funext a
    apply Fin.ext
    match a with
    | ⟨0, _⟩ => exact e.trans hd

/-- The second parts of a family of pairs. -/
def seconds {s : Shape} {α β : Type} (g : s.Idx → α × β) : s.Idx → β := fun j => (g j).2

/-- A choice over a reduced axis whose places hold the first place of the largest ends there. -/
theorem argReduce_first {s t u : Shape} {axes : List (Fin s.rank)} (x : FVec Ideal s .f32) (idx : IVec s 32) (pos : s.Idx → ℕ)
    (ix : FVec Ideal u .f32) (iy : IVec u 32) (hr : s.ReducesTo axes t) (hu : 0 < u.numel) (j : t.Idx) (f : ℕ → EReal) (V : ℕ) (h : First f V)
    (hz : ∀ i, (ix i : EReal) = ⊥) (hidx : ∀ i, idx i = BitVec.ofNat 32 (pos i)) (hmem : ∀ i, hr.drop i = j → pos i < 100000 ∧ x i = f (pos i))
    (hV : ∃ i, hr.drop i = j ∧ pos i = V) : seconds (Host.argReduce (reducer_argmax_f32_i32 (F := Ideal)) x idx ix iy hr hu) j = BitVec.ofNat 32 V := by
  unfold seconds
  obtain rfl : idx = fun i => BitVec.ofNat 32 (pos i) := funext hidx
  rw [Ideal.argReduce_eq_reduce2, Host.reduce2_eq_foldl_fiber, Host.argReduceFiber, List.foldl_map]
  refine pick_first _ (fun n => x (s.rowMajor.symm n)) (fun n => pos (s.rowMajor.symm n)) _ f V (hz _) h ?_ ?_
  · intro n hn
    rw [mem_positions] at hn
    exact hmem _ hn
  · obtain ⟨i, hi, hp⟩ := hV
    refine ⟨s.rowMajor i, ?_, ?_⟩
    · rw [mem_positions, Equiv.symm_apply_apply]; exact hi
    · rw [Equiv.symm_apply_apply]; exact hp

/-- The places of the largest values are the second parts of the reference's choice. -/
theorem places_eq (y : FVec Ideal S128x100000 .f32) :
    places y = seconds (Host.argReduce reducer_argmax_f32_i32 y (iotaInDim S128x100000 32 1) (constant ReferenceIdeal.S_ .f32 0xFF800000#32)
      (constantI ReferenceIdeal.S_ 32 0#32) ReferenceIdeal.Facts₀.reducesTo_S128x100000_S128_d1 ReferenceIdeal.Facts₀.h_S_) := rfl

/-- The reference's answer at a row is the first place of the row's largest value. -/
theorem places_of (y : FVec Ideal S128x100000 .f32) (l : Fin 128) (f : ℕ → EReal) (V : ℕ) (h : First f V)
    (hf : ∀ u (hu : u < 100000), f u = y (ix2 l (⟨u, hu⟩ : Fin 100000))) : places y (ix1 l) = BitVec.ofNat 32 V := by
  rw [places_eq]
  refine argReduce_first y _ (fun i => (i 1).val) _ _ ReferenceIdeal.Facts₀.reducesTo_S128x100000_S128_d1 ReferenceIdeal.Facts₀.h_S_ (ix1 l) f V h
    (fun _ => (constant_at _ _).trans negInf) (fun _ => rfl) ?_ ?_
  · intro i hi
    rw [drop_row] at hi
    have h1 : (i 1).val < 100000 := (i 1).isLt
    refine ⟨h1, ?_⟩
    rw [hf _ h1]
    refine congrArg y ?_
    funext a
    apply Fin.ext
    match a with
    | ⟨0, _⟩ => exact hi
    | ⟨1, _⟩ => rfl
  · exact ⟨ix2 l (⟨V, h.1⟩ : Fin 100000), by rw [drop_row], rfl⟩

/-- The reference's answer at a row is the first place of the row's largest perturbed logit. -/
theorem places_at (x : FVec Ideal S128x100000 .f32) (l : Fin 128) (V : ℕ) (h : First (score x l) V) :
    ReferenceIdeal.result x (ix1 l) = BitVec.ofNat 32 V := by
  unfold ReferenceIdeal.result
  exact places_of _ l _ V h fun u hu => by rw [score, dif_pos hu]

end Cert
-- ==== Proof.Answer.lean ====
module

public import proofs.«01_k».proof.Proof.Pick

@[expose] public section

noncomputable section

namespace Cert

open Idealize.ShloMosaic Idealize.ShloMosaic.TcCoe Idealize.SL.Sem
open Idealize.ShloMosaic.ValueIdx (ix1 ix2 eq_ix2)
open Cert.KernelIdeal (S16x128 S1x128 S128 cands answer)

/-- A counter of an entry of row `l`, read as a signed integer. -/
theorem cnt_toInt (l : Fin 128) {v : ℕ} (hv : v < 100000) : (cnt l.val v).toInt = ((l.val * 100000 + v + 42 : ℕ) : ℤ) := by
  have e : cnt l.val v = BitVec.ofNat 32 (l.val * 100000 + v + 42) := by rw [cnt, BitVec.ofNat_add (l.val * 100000 + v) 42]
  rw [e, toInt_ofNat (by omega)]

/-- The smaller of two words is one of them. -/
theorem minsi_sel (a b : BitVec 32) : IntOp.minsi a b = a ∨ IntOp.minsi a b = b := by
  unfold IntOp.minsi
  split
  · exact Or.inl rfl
  · exact Or.inr rfl

theorem minsi_left (a b : BitVec 32) : (IntOp.minsi a b).toInt ≤ a.toInt := by
  unfold IntOp.minsi
  split
  · exact le_refl _
  · next h => exact not_lt.mp fun hlt => h (decide_eq_true hlt)

theorem minsi_right (a b : BitVec 32) : (IntOp.minsi a b).toInt ≤ b.toInt := by
  unfold IntOp.minsi
  split
  · next h => exact (of_decide_eq_true h : a.toInt < b.toInt).le
  · exact le_refl _

/-- The larger of two values is one of them. -/
theorem max_sel (a b : EReal) : max a b = a ∨ max a b = b := max_choice a b

/-- A column's lanes are those that the reduction drops to the column. -/
theorem drop_col (h : S16x128.Reduces [0] S128) (i : S16x128.Idx) (l : Fin 128) : h.drop i = ix1 l ↔ (i 1).val = l.val := by
  have e : (h.drop i 0 : ℕ) = i 1 := Shape.Reduces.drop_apply_val_of_eq h i 0 1
  constructor
  · intro hd
    rw [← e, hd]
  · intro hd
    funext a
    apply Fin.ext
    match a with
    | ⟨0, _⟩ => exact e.trans hd

/-- A list of the lanes a reduction drops to a column holds exactly the column's lanes. -/
theorem mem_col (h : S16x128.Reduces [0] S128) (i : S16x128.Idx) (l : Fin 128) :
    i ∈ ((List.finRange S16x128.numel).map S16x128.rowMajor.symm).filter (fun i => decide (h.drop i = ix1 l)) ↔ (i 1).val = l.val := by
  rw [List.mem_filter, decide_eq_true_iff, drop_col]
  exact ⟨fun h => h.2, fun h => ⟨List.mem_map.mpr ⟨S16x128.rowMajor i, List.mem_finRange _, S16x128.rowMajor.symm_apply_apply i⟩, h⟩⟩

/-- A column's largest value, by the reduction: every lane is at most it, and it is `-∞` or one of the lanes. -/
theorem colMax (h : S16x128.Reduces [0] S128) (rm : FVec Ideal S16x128 .f32) (l : Fin 128) (M : EReal)
    (hM : reduceFold h (FloatOps.maximumf (F := Ideal) (φ := .f32)) (FloatOps.ofBits .f32 0xFF800000#32) rm (ix1 l) = M) :
    (∀ r : Fin 16, (rm (ix2 r l) : EReal) ≤ M) ∧ (M = ⊥ ∨ ∃ r : Fin 16, M = rm (ix2 r l)) := by
  rw [reduceFold_eq_foldl] at hM
  obtain ⟨-, h2, h3⟩ := foldl_pick (fun a b : EReal => b ≤ a) (fun a => le_refl a) (fun a b c hab hbc => le_trans hbc hab) max max_sel
    (fun a b => le_max_left a b) (fun a b => le_max_right a b) (fun i => (rm i : EReal))
    (((List.finRange S16x128.numel).map S16x128.rowMajor.symm).filter (fun i => decide (h.drop i = ix1 l))) (Ideal.ofBits .f32 0xFF800000#32)
  rw [negInf] at h2 h3
  have e : List.foldl (fun a i => max a (rm i : EReal)) ⊥ (((List.finRange S16x128.numel).map S16x128.rowMajor.symm).filter (fun i => decide (h.drop i = ix1 l))) = M := by
    rw [← hM, ← negInf]; rfl
  rw [e] at h2 h3
  refine ⟨fun r => h2 _ ((mem_col h _ l).mpr rfl), h3.imp id fun ⟨i, hi, he⟩ => ⟨i 0, ?_⟩⟩
  rw [mem_col] at hi
  rw [he]
  refine congrArg rm ?_
  funext a
  apply Fin.ext
  match a with
  | ⟨0, _⟩ => rfl
  | ⟨1, _⟩ => exact hi

/-- A column's smallest word, by the reduction: it is at most every lane's, and it is the largest word or one of the lanes. -/
theorem colMin (h : S16x128.Reduces [0] S128) (ri : IVec S16x128 32) (l : Fin 128) (W : BitVec 32)
    (hW : reduceFold h IntOp.minsi 2147483647#32 ri (ix1 l) = W) :
    (∀ r : Fin 16, W.toInt ≤ (ri (ix2 r l)).toInt) ∧ (W = 2147483647#32 ∨ ∃ r : Fin 16, W = ri (ix2 r l)) := by
  rw [reduceFold_eq_foldl] at hW
  obtain ⟨-, h2, h3⟩ := foldl_pick (fun a b : BitVec 32 => a.toInt ≤ b.toInt) (fun a => le_refl _) (fun a b c hab hbc => le_trans hab hbc) IntOp.minsi
    minsi_sel minsi_left minsi_right ri
    (((List.finRange S16x128.numel).map S16x128.rowMajor.symm).filter (fun i => decide (h.drop i = ix1 l))) 2147483647#32
  rw [hW] at h2 h3
  refine ⟨fun r => h2 _ ((mem_col h _ l).mpr rfl), h3.imp id fun ⟨i, hi, he⟩ => ⟨i 0, ?_⟩⟩
  rw [mem_col] at hi
  rw [he]
  refine congrArg ri ?_
  funext a
  apply Fin.ext
  match a with
  | ⟨0, _⟩ => rfl
  | ⟨1, _⟩ => exact hi

/-- A lane's candidate: its counter when its maximum is its column's largest, and the largest word otherwise. -/
theorem cands_at (rm : FVec Ideal S16x128 .f32) (ri : IVec S16x128 32) (r : Fin 16) (l : Fin 128) :
    cands rm ri (ix2 r l) = if (rm (ix2 r l) : EReal)
      = reduceFold KernelIdeal.Facts₀.reduces_S16x128_S128 (FloatOps.maximumf (F := Ideal) (φ := .f32)) (FloatOps.ofBits .f32 0xFF800000#32) rm (ix1 l)
      then ri (ix2 r l) else 2147483647#32 := by
  have e : cands rm ri = select (cmpf .oeq rm (broadcastTo S16x128 (shapeCast S1x128
      (reduceFold KernelIdeal.Facts₀.reduces_S16x128_S128 (FloatOps.maximumf (F := Ideal) (φ := .f32)) (FloatOps.ofBits .f32 0xFF800000#32) rm)
      KernelIdeal.Facts₀.shapeCasts_S128_S1x128) KernelIdeal.Facts₀.broadcasts_S1x128_S16x128)) ri (broadcast S16x128 2147483647#32) := rfl
  rw [e]
  generalize reduceFold KernelIdeal.Facts₀.reduces_S16x128_S128 (FloatOps.maximumf (F := Ideal) (φ := .f32)) (FloatOps.ofBits .f32 0xFF800000#32) rm = y
  have hb : broadcastTo S16x128 (shapeCast S1x128 y KernelIdeal.Facts₀.shapeCasts_S128_S1x128) KernelIdeal.Facts₀.broadcasts_S1x128_S16x128 (ix2 r l) = y (ix1 l) :=
    (ValueIdx.broadcastTo_1b_ab_apply _ _ r l).trans (ValueIdx.shapeCast_a_1a_apply y _ 0 l)
  show Scalar.select (BitVec.ofBool (decide ((rm (ix2 r l) : EReal) = broadcastTo S16x128 (shapeCast S1x128 y KernelIdeal.Facts₀.shapeCasts_S128_S1x128)
    KernelIdeal.Facts₀.broadcasts_S1x128_S16x128 (ix2 r l)))) (ri (ix2 r l)) 2147483647#32 = _
  rw [hb, select_decide]

/-- The answer at a column is the first place of the largest of `f`, when every lane holds the largest of `f` on its entries
    and the counter of the first of them that attains it. -/
theorem answer_at (rm : FVec Ideal S16x128 .f32) (ri : IVec S16x128 32) (l : Fin 128) (f : ℕ → EReal) (V : ℕ) (h : First f V)
    (hb : ∀ r : Fin 16, Best f (cnt l.val) r.val 6250 (rm (ix2 r l)) (ri (ix2 r l))) :
    answer rm ri (ix2 (0 : Fin 1) l) = BitVec.ofNat 32 V := by
  obtain ⟨hV, hne, hmax, hmin⟩ := h
  have hans : answer rm ri (ix2 (0 : Fin 1) l)
      = reduceFold KernelIdeal.Facts₀.reduces_S16x128_S128 IntOp.minsi 2147483647#32 (cands rm ri) (ix1 l) - BitVec.ofNat 32 l.val * 100000#32 - 42#32 := by
    have e : answer rm ri = subi (subi (shapeCast S1x128 (reduceFold KernelIdeal.Facts₀.reduces_S16x128_S128 IntOp.minsi 2147483647#32 (cands rm ri))
        KernelIdeal.Facts₀.shapeCasts_S128_S1x128) (muli (iota .tc S1x128 32 [1] KernelIdeal.Facts₀.iota_S1x128_d1_w32) (broadcast S1x128 100000#32)))
        (broadcast S1x128 42#32) := rfl
    rw [e]
    generalize reduceFold KernelIdeal.Facts₀.reduces_S16x128_S128 IntOp.minsi 2147483647#32 (cands rm ri) = y
    show shapeCast S1x128 y KernelIdeal.Facts₀.shapeCasts_S128_S1x128 (ix2 (0 : Fin 1) l) - BitVec.ofNat 32 (0 * 128 + l.val) * 100000#32 - 42#32 = _
    rw [ValueIdx.shapeCast_a_1a_apply y _ 0 l]
    simp only [Nat.zero_mul, Nat.zero_add]
  -- the largest value of the column
  obtain ⟨m1, m2⟩ := colMax KernelIdeal.Facts₀.reduces_S16x128_S128 rm l _ rfl
  have hc := fun r => cands_at rm ri r l
  generalize reduceFold KernelIdeal.Facts₀.reduces_S16x128_S128 (FloatOps.maximumf (F := Ideal) (φ := .f32)) (FloatOps.ofBits .f32 0xFF800000#32) rm (ix1 l) = M at m1 m2 hc
  have hrV : V % 16 < 16 := Nat.mod_lt _ (by omega)
  have eV : 16 * (V / 16) + V % 16 = V := Nat.div_add_mod V 16
  have hlow : f V ≤ rm (ix2 (⟨V % 16, hrV⟩ : Fin 16) l) := by
    have := (hb ⟨V % 16, hrV⟩).1 (V / 16) (by omega)
    rwa [eV] at this
  have hup : ∀ r : Fin 16, (rm (ix2 r l) : EReal) ≤ f V := fun r => by
    rcases (hb r).2 with e | ⟨t, ht, e, -⟩
    · rw [e]; exact bot_le
    · rw [← e]; exact hmax _ (by omega)
  have hM : M = f V := by
    refine le_antisymm ?_ (hlow.trans (m1 _))
    rcases m2 with e | ⟨r, e⟩
    · rw [e]; exact bot_le
    · rw [e]; exact hup r
  rw [hM] at hc
  -- a lane that attains it holds the counter of a place not before `V`
  have hlane : ∀ r : Fin 16, (rm (ix2 r l) : EReal) = f V → ∃ t, t < 6250 ∧ V ≤ 16 * t + r.val ∧ ri (ix2 r l) = cnt l.val (16 * t + r.val)
      ∧ ∀ t' < t, f (16 * t' + r.val) < f V := fun r e => by
    rcases (hb r).2 with e' | ⟨t, ht, e', ei, hf⟩
    · exact absurd (e.symm.trans e') hne
    · refine ⟨t, ht, Nat.not_lt.mp fun hlt => ?_, ei, e ▸ hf⟩
      exact absurd (e'.trans e) (hmin _ hlt).ne
  have hfirst : cands rm ri (ix2 (⟨V % 16, hrV⟩ : Fin 16) l) = cnt l.val V := by
    have e : (rm (ix2 (⟨V % 16, hrV⟩ : Fin 16) l) : EReal) = f V := le_antisymm (hup _) hlow
    obtain ⟨t, ht, hge, ei, hf⟩ := hlane _ e
    rw [hc, if_pos e, ei]
    have htV : t ≤ V / 16 := Nat.not_lt.mp fun hlt => by
      have := hf _ hlt
      dsimp only at this
      rw [eV] at this
      exact absurd this (lt_irrefl _)
    dsimp only at hge ⊢
    rw [show 16 * t + V % 16 = V by omega]
  obtain ⟨w1, w2⟩ := colMin KernelIdeal.Facts₀.reduces_S16x128_S128 (cands rm ri) l _ rfl
  rw [hans]
  generalize reduceFold KernelIdeal.Facts₀.reduces_S16x128_S128 IntOp.minsi 2147483647#32 (cands rm ri) (ix1 l) = W at w1 w2
  have hWle := w1 ⟨V % 16, hrV⟩
  rw [hfirst, cnt_toInt l hV] at hWle
  have hl : l.val < 128 := l.isLt
  have hbig : (2147483647#32 : BitVec 32).toInt = 2147483647 := by decide
  have hW : W = cnt l.val V := by
    rcases w2 with e | ⟨r, e⟩
    · rw [e, hbig] at hWle
      omega
    · rw [hc] at e
      by_cases hr : (rm (ix2 r l) : EReal) = f V
      · rw [if_pos hr] at e
        obtain ⟨t, ht, hge, ei, -⟩ := hlane r hr
        have hlt : 16 * t + r.val < 100000 := by omega
        rw [e, ei, cnt_toInt l hlt] at hWle
        rw [e, ei, show 16 * t + r.val = V by omega]
      · rw [if_neg hr] at e
        rw [e, hbig] at hWle
        omega
  rw [hW, cnt]
  apply BitVec.eq_of_toNat_eq
  simp only [BitVec.toNat_sub, BitVec.toNat_add, BitVec.toNat_mul, BitVec.toNat_ofNat]
  omega

end Cert
-- ==== Proof.Value.lean ====
module

public import proofs.«01_k».proof.Proof.Answer

@[expose] public section

noncomputable section

namespace Cert

open Idealize.ShloMosaic Idealize.ShloMosaic.TcCoe Idealize.SL.Sem
open Idealize.ShloMosaic.ValueIdx (ix1 ix2 eq_ix2)
open Cert.KernelIdeal (S16x128 S1x128 answer nD τ sig main_arg0 main_v2 scanMax scanIdx)
open Cert.ReferenceIdeal (S128x100000 S128)

/-- The precondition's shape facts. -/
theorem preFacts : Pre_some_logit.Facts where
  bcast_S_S128x100000 := by decide
  reducesTo_S128x100000_S128_d1 := by decide
  h_S_ := by decide

/-- An or-reduction that ends at one meets a one. -/
theorem reduce_or {s t u : Shape} {axes : List (Fin s.rank)} (x : IVec s 1) (init : IVec u 1) (h : s.ReducesTo axes t) (hu : 0 < u.numel) (j : t.Idx)
    (h0 : ∀ i, init i = 0#1) (h1 : Host.reduce IntOp.ori x init h hu j = 1#1) : ∃ i, h.drop i = j ∧ x i = 1#1 := by
  rw [Host.reduce_eq_foldl] at h1
  obtain ⟨-, -, h3⟩ := foldl_pick (fun _ _ : BitVec 1 => True) (fun _ => trivial) (fun _ _ _ _ _ => trivial) IntOp.ori (by decide)
    (fun _ _ => trivial) (fun _ _ => trivial) x (((List.finRange s.numel).map s.rowMajor.symm).filter fun i => decide (h.drop i = j)) (init (Shape.Idx.first hu))
  rw [h1, h0] at h3
  rcases h3 with e | ⟨i, hi, e⟩
  · exact absurd e (by decide)
  · exact ⟨i, of_decide_eq_true (List.mem_filter.mp hi).2, e.symm⟩

/-- Under the precondition every row has a first place of its largest perturbed logit, which is not `-∞`. -/
theorem first_of_pre (hP : Pre_some_logit.Facts) (x : FVec Ideal S128x100000 .f32) (h : Pre_some_logit.fn (F := Ideal) x = fun _ => 1#1) (l : Fin 128) :
    ∃ V, First (score x l) V := by
  have h1 : Host.reduce IntOp.ori (cmpf .ogt x (broadcastInDim Pre_some_logit.S128x100000 ![] Pre_some_logit.Facts.bcast_S_S128x100000
    (constant Pre_some_logit.S_ .f32 0xFF800000#32))) (constantI Pre_some_logit.S_ 1 0#1) Pre_some_logit.Facts.reducesTo_S128x100000_S128_d1
    Pre_some_logit.Facts.h_S_ = fun _ => 1#1 := h
  obtain ⟨i, hi, hx⟩ := reduce_or _ _ _ _ (ix1 l) (fun _ => rfl) (congrFun h1 (ix1 l))
  have hl : (i 0).val = l.val := (drop_row hP.reducesTo_S128x100000_S128_d1 i l).mp hi
  have hv : (i 1).val < 100000 := (i 1).isLt
  have ei : (ix2 l (⟨(i 1).val, hv⟩ : Fin 100000) : S128x100000.Idx) = i := by
    funext a
    apply Fin.ext
    match a with
    | ⟨0, _⟩ => exact hl.symm
    | ⟨1, _⟩ => rfl
  refine exists_first hv ?_
  rw [score, dif_pos hv, ei, perturbed_at]
  refine less_noise_ne_bot _ fun e => ?_
  have hx' : BitVec.ofBool (decide (Ideal.ofBits .f32 0xFF800000#32 < (x i : EReal))) = 1#1 := hx
  rw [negInf, e, decide_eq_false (lt_irrefl _)] at hx'
  exact absurd hx' (by decide)

/-- The kernel's result row, for logits of which every row has a first place of its largest perturbed logit. -/
theorem answer_eq (m : (ℓ : Loc nD τ sig) → Buf (Elt Ideal) ℓ) (c : Dev nD)
    (h : ∀ l : Fin 128, ∃ V, First (score (m ((c.tc : Thread nD τ).loc main_arg0)) l) V) (R I) :
    answer (scanMax m c R 25) (scanIdx m c R I 25) = fun j => ReferenceIdeal.result (F := Ideal) (m ((c.tc : Thread nD τ).loc main_arg0)) (ix1 (j 1)) := by
  funext j
  obtain ⟨V, hV⟩ := h (j 1)
  have ej : j = ix2 (0 : Fin 1) (j 1) := by
    funext a
    apply Fin.ext
    match a with
    | ⟨0, _⟩ =>
      have : (j 0).val < 1 := (j 0).isLt
      show (j 0).val = 0
      omega
    | ⟨1, _⟩ => rfl
  have ha := answer_at (scanMax m c R 25) (scanIdx m c R I 25) (j 1) _ V hV fun r => scan_best m c R I r (j 1) 24 (by omega)
  have hb := places_at (m ((c.tc : Thread nD τ).loc main_arg0)) (j 1) V hV
  refine Eq.trans ?_ (ha.trans hb.symm)
  exact congrArg (answer (scanMax m c R 25) (scanIdx m c R I 25)) ej

/-- The kernel runs to the reference's result on logits that meet the precondition, which it leaves as they were. -/
theorem kernel_run (hP : Pre_some_logit.Facts) (m : (ℓ : Loc nD τ sig) → Buf (Elt Ideal) ℓ) (ρ : Dev nD → PrngReg)
    (h : ∀ c : Dev nD, Pre_some_logit.fn (F := Ideal) (m ((c.tc : Thread nD τ).loc main_arg0)) = fun _ => 1#1) :
    θ_run KernelIdeal.defs (onTc (τ := τ) (KernelIdeal.main (F := Ideal))) ⟨m, fun _ => 0, ρ⟩ fun r => ∀ c : Dev nD,
      r.2.mem ((c.tc : Thread nD τ).loc main_v2) = ReferenceIdeal.result (F := Ideal) (m ((c.tc : Thread nD τ).loc main_arg0))
        ∧ r.2.mem ((c.tc : Thread nD τ).loc main_arg0) = m ((c.tc : Thread nD τ).loc main_arg0) := by
  refine (θ_run _ _ _).mono (fun r hr c => ⟨(hr c).1.trans ?_, (hr c).2⟩) (KernelIdeal.run m
    (fun c j => ReferenceIdeal.result (F := Ideal) (m ((c.tc : Thread nD τ).loc main_arg0)) (ix1 (j 1))) ρ
    fun c R I => answer_eq m c (fun l => first_of_pre hP _ (h c) l) R I)
  generalize ReferenceIdeal.result (F := Ideal) (m ((c.tc : Thread nD τ).loc main_arg0)) = y
  funext j
  have ej : j = ix1 (j 0) := by
    funext a
    match a with
    | ⟨0, _⟩ => rfl
  rw [ej]
  exact ValueIdx.shapeCast_1a_a_apply _ _ (j 0)

end Cert
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Same
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem

/-- The reference runs, leaves its argument as it was and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0 :=
  (θ_run _ _ _).mono (fun _ h => ⟨fun c => (h.1 c).2, h.2⟩) (Cert.ReferenceIdeal.run m g)

/-- On logits that meet the precondition, kernel and reference end with equal results. -/
theorem algebraic (hP : Cert.Pre_some_logit.Facts) : Cert.algebraic_KernelIdeal_ReferenceIdeal_pre_some_logit :=
  fun m g m' g' hpre hargs =>
    ⟨fun c => Cert.ReferenceIdeal.result (F := Ideal) (m ((c.tc : Thread Cert.KernelIdeal.nD Cert.KernelIdeal.τ).loc Cert.KernelIdeal.main_arg0)),
      Cert.kernel_run hP m g hpre,
      (θ_run _ _ _).mono (fun r h c => ⟨(h.1 c).1.trans (congrArg (Cert.ReferenceIdeal.result (F := Ideal)) (hargs c)), (h.1 c).2⟩)
        (Cert.ReferenceIdeal.run m' g')⟩

/-- Every claim. -/
theorem claim : Cert.Claim :=
  ⟨Cert.Kernel.Gen.facts, Cert.KernelIdeal.Gen.facts, Cert.ReferenceIdeal.Gen.facts, Cert.preFacts,
    fun m g _ => Cert.Kernel.frame m g, fun m g _ => Cert.KernelIdeal.frame m g, fun m g _ => Cert.KernelIdeal.frame m g,
    fun m g _ => reference_frame m g, fun m g _ => reference_frame m g, trivial, algebraic Cert.preFacts⟩

end Cert.Proof

end
